-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mixing [hPre_finite_mixing : Cert.Pre_finite_mixing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mixing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mixing [hPre_finite_mixing : Cert.Pre_finite_mixing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mixing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_finite_mixing [hKernelIdeal : Cert.KernelIdeal.Facts] [hPre_finite_mixing : Cert.Pre_finite_mixing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mixing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_finite_mixing [hReferenceIdeal : Cert.ReferenceIdeal.Facts] [hPre_finite_mixing : Cert.Pre_finite_mixing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mixing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal_pre_finite_mixing [hKernelIdeal : Cert.KernelIdeal.Facts] [hReferenceIdeal : Cert.ReferenceIdeal.Facts] [hPre_finite_mixing : Cert.Pre_finite_mixing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mixing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_mixing : Cert.Pre_finite_mixing.Facts),
    quiescent_Kernel (hKernel := hKernel)
    ∧ quiescent_KernelIdeal (hKernelIdeal := hKernelIdeal)
    ∧ quiescent_KernelIdeal_pre_finite_mixing (hKernelIdeal := hKernelIdeal) (hPre_finite_mixing := hPre_finite_mixing)
    ∧ quiescent_ReferenceIdeal (hReferenceIdeal := hReferenceIdeal)
    ∧ quiescent_ReferenceIdeal_pre_finite_mixing (hReferenceIdeal := hReferenceIdeal) (hPre_finite_mixing := hPre_finite_mixing)
    ∧ preserves_Kernel_KernelIdeal
    ∧ algebraic_KernelIdeal_ReferenceIdeal_pre_finite_mixing (hKernelIdeal := hKernelIdeal) (hReferenceIdeal := hReferenceIdeal) (hPre_finite_mixing := hPre_finite_mixing)
-- ==== Pre_finite_mixing.lean ====
abbrev S1024x1902 : Shape := ⟨2, ![1024, 1902]⟩
abbrev S4096x334 : Shape := ⟨2, ![4096, 334]⟩
abbrev S60x64 : Shape := ⟨2, ![60, 64]⟩
abbrev S1024x1024 : Shape := ⟨2, ![1024, 1024]⟩
abbrev S1024x4096 : Shape := ⟨2, ![1024, 4096]⟩
abbrev S1024x60 : Shape := ⟨2, ![1024, 60]⟩
abbrev S1902x256 : Shape := ⟨2, ![1902, 256]⟩
abbrev S256 : Shape := ⟨1, ![256]⟩
abbrev S334x256 : Shape := ⟨2, ![334, 256]⟩
abbrev S64x256 : Shape := ⟨2, ![64, 256]⟩
abbrev S256x256 : Shape := ⟨2, ![256, 256]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S64x16 : S_.BroadcastsInDim S64x16 (![] : Fin 0 → Fin S64x16.rank)

variable [Facts]

def fn {F : FTy → Type} [FloatOps F] (main_arg0 : FVec F S1024x1902 .f32) (main_arg1 : FVec F S4096x334 .f32) (main_arg2 : FVec F S60x64 .f32) (main_arg3 : FVec F S1024x1902 .f32) (main_arg4 : FVec F S1024x1024 .f32) (main_arg5 : FVec F S1024x1024 .f32) (main_arg6 : FVec F S1024x1024 .f32) (main_arg7 : FVec F S1024x1024 .f32) (main_arg8 : FVec F S1024x4096 .f32) (main_arg9 : FVec F S1024x60 .f32) (main_arg10 : FVec F S1902x256 .f32) (main_arg11 : FVec F S256 .f32) (main_arg12 : FVec F S334x256 .f32) (main_arg13 : FVec F S256 .f32) (main_arg14 : FVec F S64x256 .f32) (main_arg15 : FVec F S256 .f32) (main_arg16 : FVec F S256x256 .f32) (main_arg17 : FVec F S256x256 .f32) (main_arg18 : FVec F S256x64 .f32) (main_arg19 : FVec F S64 .f32) (main_arg20 : FVec F S64x64 .f32) (main_arg21 : FVec F S64 .f32) (main_arg22 : FVec F S64x64 .f32) (main_arg23 : FVec F S64 .f32) (main_arg24 : FVec F S64 .f32) (main_arg25 : FVec F S64x64 .f32) (main_arg26 : FVec F S64 .f32) (main_arg27 : FVec F S64x16 .f32) (main_arg28 : FVec F S16 .f32) (main_arg29 : FVec F S16x1 .f32) (main_arg30 : FVec F S1 .f32) : IVec S64x16 1 :=
  let main_v0 : FVec F S64x16 .f32 := Host.absf main_arg27
  let main_cst : FVec F S_ .f32 := constant S_ .f32 0x7F800000#32
  let main_v1 : FVec F S64x16 .f32 := broadcastInDim S64x16 ![] bcast_S_S64x16 main_cst
  let main_v2 : IVec S64x16 1 := cmpf .olt main_v0 main_v1
  main_v2
-- ==== Kernel.lean ====
abbrev S1024x1902 : Shape := ⟨2, ![1024, 1902]⟩
abbrev S4096x334 : Shape := ⟨2, ![4096, 334]⟩
abbrev S60x64 : Shape := ⟨2, ![60, 64]⟩
abbrev S1024x1024 : Shape := ⟨2, ![1024, 1024]⟩
abbrev S1024x4096 : Shape := ⟨2, ![1024, 4096]⟩
abbrev S1024x60 : Shape := ⟨2, ![1024, 60]⟩
abbrev S1902x256 : Shape := ⟨2, ![1902, 256]⟩
abbrev S256 : Shape := ⟨1, ![256]⟩
abbrev S334x256 : Shape := ⟨2, ![334, 256]⟩
abbrev S64x256 : Shape := ⟨2, ![64, 256]⟩
abbrev S256x256 : Shape := ⟨2, ![256, 256]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩
abbrev S1024x1920 : Shape := ⟨2, ![1024, 1920]⟩
abbrev S2048x1920 : Shape := ⟨2, ![2048, 1920]⟩
abbrev S1920x256 : Shape := ⟨2, ![1920, 256]⟩
abbrev S4096x384 : Shape := ⟨2, ![4096, 384]⟩
abbrev S384x256 : Shape := ⟨2, ![384, 256]⟩
abbrev S1024x64 : Shape := ⟨2, ![1024, 64]⟩
abbrev S1x256 : Shape := ⟨2, ![1, 256]⟩
abbrev S2048x256 : Shape := ⟨2, ![2048, 256]⟩
abbrev S256x1920 : Shape := ⟨2, ![256, 1920]⟩
abbrev S1024x256 : Shape := ⟨2, ![1024, 256]⟩
abbrev S4096x256 : Shape := ⟨2, ![4096, 256]⟩
abbrev S512x384 : Shape := ⟨2, ![512, 384]⟩
abbrev S512x256 : Shape := ⟨2, ![512, 256]⟩
abbrev S256x4096 : Shape := ⟨2, ![256, 4096]⟩
abbrev S256x1 : Shape := ⟨2, ![256, 1]⟩
abbrev S1024 : Shape := ⟨1, ![1024]⟩
abbrev S1024x1 : Shape := ⟨2, ![1024, 1]⟩
abbrev S1x64 : Shape := ⟨2, ![1, 64]⟩
abbrev S64x1 : Shape := ⟨2, ![64, 1]⟩
abbrev S1x1 : Shape := ⟨2, ![1, 1]⟩
abbrev S1x1024x1 : Shape := ⟨3, ![1, 1024, 1]⟩
abbrev S1x1x1 : Shape := ⟨3, ![1, 1, 1]⟩
abbrev S1x4 : Shape := ⟨2, ![1, 4]⟩
abbrev S4 : Shape := ⟨1, ![4]⟩
abbrev S1x16 : Shape := ⟨2, ![1, 16]⟩
abbrev S1024x16 : Shape := ⟨2, ![1024, 16]⟩
abbrev S16x1024 : Shape := ⟨2, ![16, 1024]⟩
abbrev S8x1x128 : Shape := ⟨3, ![8, 1, 128]⟩
abbrev S128x64 : Shape := ⟨2, ![128, 64]⟩
abbrev S128x16 : Shape := ⟨2, ![128, 16]⟩
abbrev S1x1x128 : Shape := ⟨3, ![1, 1, 128]⟩
abbrev S64x1024 : Shape := ⟨2, ![64, 1024]⟩
abbrev S128x1024 : Shape := ⟨2, ![128, 1024]⟩
abbrev S128x1 : Shape := ⟨2, ![128, 1]⟩
abbrev S1x1024 : Shape := ⟨2, ![1, 1024]⟩
abbrev S128 : Shape := ⟨1, ![128]⟩

abbrev nBuf : Space → Nat
  | .hbm => 119
  | .vmem => 118
  | .smem => 0
  | _ => 0

abbrev bufTy : (tb : Table) → Fin (tcTables nBuf tb) → BufTy
  | .hbm, ⟨0, _⟩ => ⟨S1024x1902, .f32⟩
  | .hbm, ⟨1, _⟩ => ⟨S4096x334, .f32⟩
  | .hbm, ⟨2, _⟩ => ⟨S60x64, .f32⟩
  | .hbm, ⟨3, _⟩ => ⟨S1024x1902, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x4096, .f32⟩
  | .hbm, ⟨9, _⟩ => ⟨S1024x60, .f32⟩
  | .hbm, ⟨10, _⟩ => ⟨S1902x256, .f32⟩
  | .hbm, ⟨11, _⟩ => ⟨S256, .f32⟩
  | .hbm, ⟨12, _⟩ => ⟨S334x256, .f32⟩
  | .hbm, ⟨13, _⟩ => ⟨S256, .f32⟩
  | .hbm, ⟨14, _⟩ => ⟨S64x256, .f32⟩
  | .hbm, ⟨15, _⟩ => ⟨S256, .f32⟩
  | .hbm, ⟨16, _⟩ => ⟨S256x256, .f32⟩
  | .hbm, ⟨17, _⟩ => ⟨S256x256, .f32⟩
  | .hbm, ⟨18, _⟩ => ⟨S256x64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S64x64, .f32⟩
  | .hbm, ⟨23, _⟩ => ⟨S64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S64x16, .f32⟩
  | .hbm, ⟨28, _⟩ => ⟨S16, .f32⟩
  | .hbm, ⟨29, _⟩ => ⟨S16x1, .f32⟩
  | .hbm, ⟨30, _⟩ => ⟨S1, .f32⟩
  | .hbm, ⟨31, _⟩ => ⟨S_, .i32⟩
  | .hbm, ⟨32, _⟩ => ⟨S_, .f32⟩
  | .hbm, ⟨33, _⟩ => ⟨S1024x1920, .f32⟩
  | .hbm, ⟨34, _⟩ => ⟨S_, .i32⟩
  | .hbm, ⟨35, _⟩ => ⟨S_, .f32⟩
  | .hbm, ⟨36, _⟩ => ⟨S1024x1920, .f32⟩
  | .hbm, ⟨37, _⟩ => ⟨S2048x1920, .f32⟩
  | .hbm, ⟨38, _⟩ => ⟨S_, .i32⟩
  | .hbm, ⟨39, _⟩ => ⟨S_, .f32⟩
  | .hbm, ⟨40, _⟩ => ⟨S1920x256, .f32⟩
  | .hbm, ⟨41, _⟩ => ⟨S_, .i32⟩
  | .hbm, ⟨42, _⟩ => ⟨S_, .f32⟩
  | .hbm, ⟨43, _⟩ => ⟨S4096x384, .f32⟩
  | .hbm, ⟨44, _⟩ => ⟨S_, .i32⟩
  | .hbm, ⟨45, _⟩ => ⟨S_, .f32⟩
  | .hbm, ⟨46, _⟩ => ⟨S384x256, .f32⟩
  | .hbm, ⟨47, _⟩ => ⟨S_, .i32⟩
  | .hbm, ⟨48, _⟩ => ⟨S_, .f32⟩
  | .hbm, ⟨49, _⟩ => ⟨S64x64, .f32⟩
  | .hbm, ⟨50, _⟩ => ⟨S_, .i32⟩
  | .hbm, ⟨51, _⟩ => ⟨S_, .f32⟩
  | .hbm, ⟨52, _⟩ => ⟨S1024x64, .f32⟩
  | .hbm, ⟨53, _⟩ => ⟨S1x256, .f32⟩
  | .hbm, ⟨54, _⟩ => ⟨S2048x256, .f32⟩
  | .hbm, ⟨55, _⟩ => ⟨S1024x256, .f32⟩
  | .hbm, ⟨56, _⟩ => ⟨S1024x256, .f32⟩
  | .hbm, ⟨57, _⟩ => ⟨S1x256, .f32⟩
  | .hbm, ⟨58, _⟩ => ⟨S4096x256, .f32⟩
  | .hbm, ⟨59, _⟩ => ⟨S1024x256, .f32⟩
  | .hbm, ⟨60, _⟩ => ⟨S1x256, .f32⟩
  | .hbm, ⟨61, _⟩ => ⟨S1024x256, .f32⟩
  | .hbm, ⟨62, _⟩ => ⟨S1024x256, .f32⟩
  | .hbm, ⟨63, _⟩ => ⟨S1024x256, .f32⟩
  | .hbm, ⟨64, _⟩ => ⟨S1024x256, .f32⟩
  | .hbm, ⟨65, _⟩ => ⟨S1024x256, .f32⟩
  | .hbm, ⟨66, _⟩ => ⟨S1x64, .f32⟩
  | .hbm, ⟨67, _⟩ => ⟨S1x64, .f32⟩
  | .hbm, ⟨68, _⟩ => ⟨S1024x64, .f32⟩
  | .hbm, ⟨69, _⟩ => ⟨S1x64, .f32⟩
  | .hbm, ⟨70, _⟩ => ⟨S64x1, .f32⟩
  | .hbm, ⟨71, _⟩ => ⟨S1024x64, .f32⟩
  | .hbm, ⟨72, _⟩ => ⟨S1x1, .f32⟩
  | .hbm, ⟨73, _⟩ => ⟨S1x64, .f32⟩
  | .hbm, ⟨74, _⟩ => ⟨S64x1, .f32⟩
  | .hbm, ⟨75, _⟩ => ⟨S1024x64, .f32⟩
  | .hbm, ⟨76, _⟩ => ⟨S1x1, .f32⟩
  | .hbm, ⟨77, _⟩ => ⟨S1x64, .f32⟩
  | .hbm, ⟨78, _⟩ => ⟨S64x1, .f32⟩
  | .hbm, ⟨79, _⟩ => ⟨S1024x64, .f32⟩
  | .hbm, ⟨80, _⟩ => ⟨S1x1, .f32⟩
  | .hbm, ⟨81, _⟩ => ⟨S1x64, .f32⟩
  | .hbm, ⟨82, _⟩ => ⟨S64x1, .f32⟩
  | .hbm, ⟨83, _⟩ => ⟨S1024x64, .f32⟩
  | .hbm, ⟨84, _⟩ => ⟨S1x1, .f32⟩
  | .hbm, ⟨85, _⟩ => ⟨S1x4, .f32⟩
  | .hbm, ⟨86, _⟩ => ⟨S4, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1, .f32⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S_, .f32⟩
  | .hbm, ⟨96, _⟩ => ⟨S_, .f32⟩
  | .hbm, ⟨97, _⟩ => ⟨S1, .f32⟩
  | .hbm, ⟨98, _⟩ => ⟨S4, .f32⟩
  | .hbm, ⟨99, _⟩ => ⟨S4, .f32⟩
  | .hbm, ⟨100, _⟩ => ⟨S1x4, .f32⟩
  | .hbm, ⟨101, _⟩ => ⟨S1x64, .f32⟩
  | .hbm, ⟨102, _⟩ => ⟨S1x16, .f32⟩
  | .hbm, ⟨103, _⟩ => ⟨S1024x64, .f32⟩
  | .hbm, ⟨104, _⟩ => ⟨S1024x64, .f32⟩
  | .hbm, ⟨105, _⟩ => ⟨S1024x16, .f32⟩
  | .hbm, ⟨106, _⟩ => ⟨S16x1024, .f32⟩
  | .hbm, ⟨107, _⟩ => ⟨S1x16, .f32⟩
  | .hbm, ⟨108, _⟩ => ⟨S1x1, .f32⟩
  | .hbm, ⟨109, _⟩ => ⟨S8x1x128, .f32⟩
  | .hbm, ⟨110, _⟩ => ⟨S8x1x128, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .local _ .vmem, ⟨0, _⟩ => ⟨S256x1920, .f32⟩
  | .local _ .vmem, ⟨1, _⟩ => ⟨S256x1920, .f32⟩
  | .local _ .vmem, ⟨2, _⟩ => ⟨S1920x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S512x384, .f32⟩
  | .local _ .vmem, ⟨7, _⟩ => ⟨S512x384, .f32⟩
  | .local _ .vmem, ⟨8, _⟩ => ⟨S384x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S256x4096, .f32⟩
  | .local _ .vmem, ⟨13, _⟩ => ⟨S256x4096, .f32⟩
  | .local _ .vmem, ⟨14, _⟩ => ⟨S4096x256, .f32⟩
  | .local _ .vmem, ⟨15, _⟩ => ⟨S256x256, .f32⟩
  | .local _ .vmem, ⟨16, _⟩ => ⟨S256x256, .f32⟩
  | .local _ .vmem, ⟨17, _⟩ => ⟨S64x64, .f32⟩
  | .local _ .vmem, ⟨18, _⟩ => ⟨S64x256, .f32⟩
  | .local _ .vmem, ⟨19, _⟩ => ⟨S1x256, .f32⟩
  | .local _ .vmem, ⟨20, _⟩ => ⟨S1024x64, .f32⟩
  | .local _ .vmem, ⟨21, _⟩ => ⟨S1024x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S1024x256, .f32⟩
  | .local _ .vmem, ⟨41, _⟩ => ⟨S1024x1024, .f32⟩
  | .local _ .vmem, ⟨42, _⟩ => ⟨S1024x1024, .f32⟩
  | .local _ .vmem, ⟨43, _⟩ => ⟨S256x64, .f32⟩
  | .local _ .vmem, ⟨44, _⟩ => ⟨S1x64, .f32⟩
  | .local _ .vmem, ⟨45, _⟩ => ⟨S64x64, .f32⟩
  | .local _ .vmem, ⟨46, _⟩ => ⟨S1x64, .f32⟩
  | .local _ .vmem, ⟨47, _⟩ => ⟨S1024x64, .f32⟩
  | .local _ .vmem, ⟨48, _⟩ => ⟨S1024x256, .f32⟩
  | .local _ .vmem, ⟨49, _⟩ => ⟨S1024x1024, .f32⟩
  | .local _ .vmem, ⟨50, _⟩ => ⟨S256x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S64x64, .f32⟩
  | .local _ .vmem, ⟨55, _⟩ => ⟨S1x64, .f32⟩
  | .local _ .vmem, ⟨56, _⟩ => ⟨S64x1, .f32⟩
  | .local _ .vmem, ⟨57, _⟩ => ⟨S1024x64, .f32⟩
  | .local _ .vmem, ⟨58, _⟩ => ⟨S1x1, .f32⟩
  | .local _ .vmem, ⟨59, _⟩ => ⟨S1024x256, .f32⟩
  | .local _ .vmem, ⟨60, _⟩ => ⟨S1024x1024, .f32⟩
  | .local _ .vmem, ⟨61, _⟩ => ⟨S256x64, .f32⟩
  | .local _ .vmem, ⟨62, _⟩ => ⟨S1x64, .f32⟩
  | .local _ .vmem, ⟨63, _⟩ => ⟨S64x64, .f32⟩
  | .local _ .vmem, ⟨64, _⟩ => ⟨S1x64, .f32⟩
  | .local _ .vmem, ⟨65, _⟩ => ⟨S64x64, .f32⟩
  | .local _ .vmem, ⟨66, _⟩ => ⟨S1x64, .f32⟩
  | .local _ .vmem, ⟨67, _⟩ => ⟨S64x1, .f32⟩
  | .local _ .vmem, ⟨68, _⟩ => ⟨S1024x64, .f32⟩
  | .local _ .vmem, ⟨69, _⟩ => ⟨S1x1, .f32⟩
  | .local _ .vmem, ⟨70, _⟩ => ⟨S1024x256, .f32⟩
  | .local _ .vmem, ⟨71, _⟩ => ⟨S1024x1024, .f32⟩
  | .local _ .vmem, ⟨72, _⟩ => ⟨S256x64, .f32⟩
  | .local _ .vmem, ⟨73, _⟩ => ⟨S1x64, .f32⟩
  | .local _ .vmem, ⟨74, _⟩ => ⟨S64x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S64x1, .f32⟩
  | .local _ .vmem, ⟨79, _⟩ => ⟨S1024x64, .f32⟩
  | .local _ .vmem, ⟨80, _⟩ => ⟨S1x1, .f32⟩
  | .local _ .vmem, ⟨81, _⟩ => ⟨S1024x256, .f32⟩
  | .local _ .vmem, ⟨82, _⟩ => ⟨S1024x1024, .f32⟩
  | .local _ .vmem, ⟨83, _⟩ => ⟨S256x64, .f32⟩
  | .local _ .vmem, ⟨84, _⟩ => ⟨S1x64, .f32⟩
  | .local _ .vmem, ⟨85, _⟩ => ⟨S64x64, .f32⟩
  | .local _ .vmem, ⟨86, _⟩ => ⟨S1x64, .f32⟩
  | .local _ .vmem, ⟨87, _⟩ => ⟨S64x64, .f32⟩
  | .local _ .vmem, ⟨88, _⟩ => ⟨S1x64, .f32⟩
  | .local _ .vmem, ⟨89, _⟩ => ⟨S64x1, .f32⟩
  | .local _ .vmem, ⟨90, _⟩ => ⟨S1024x64, .f32⟩
  | .local _ .vmem, ⟨91, _⟩ => ⟨S1x1, .f32⟩
  | .local _ .vmem, ⟨92, _⟩ => ⟨S1024x64, .f32⟩
  | .local _ .vmem, ⟨93, _⟩ => ⟨S1024x64, .f32⟩
  | .local _ .vmem, ⟨94, _⟩ => ⟨S1024x64, .f32⟩
  | .local _ .vmem, ⟨95, _⟩ => ⟨S1024x64, .f32⟩
  | .local _ .vmem, ⟨96, _⟩ => ⟨S1024x64, .f32⟩
  | .local _ .vmem, ⟨97, _⟩ => ⟨S1x4, .f32⟩
  | .local _ .vmem, ⟨98, _⟩ => ⟨S64x64, .f32⟩
  | .local _ .vmem, ⟨99, _⟩ => ⟨S1x64, .f32⟩
  | .local _ .vmem, ⟨100, _⟩ => ⟨S64x16, .f32⟩
  | .local _ .vmem, ⟨101, _⟩ => ⟨S1x16, .f32⟩
  | .local _ .vmem, ⟨102, _⟩ => ⟨S1024x64, .f32⟩
  | .local _ .vmem, ⟨103, _⟩ => ⟨S1024x64, .f32⟩
  | .local _ .vmem, ⟨104, _⟩ => ⟨S1024x16, .f32⟩
  | .local _ .vmem, ⟨105, _⟩ => ⟨S16x1024, .f32⟩
  | .local _ .vmem, ⟨106, _⟩ => ⟨S128x64, .f32⟩
  | .local _ .vmem, ⟨107, _⟩ => ⟨S128x64, .f32⟩
  | .local _ .vmem, ⟨108, _⟩ => ⟨S1024x64, .f32⟩
  | .local _ .vmem, ⟨109, _⟩ => ⟨S128x16, .f32⟩
  | .local _ .vmem, ⟨110, _⟩ => ⟨S128x16, .f32⟩
  | .local _ .vmem, ⟨111, _⟩ => ⟨S16x1024, .f32⟩
  | .local _ .vmem, ⟨112, _⟩ => ⟨S1x16, .f32⟩
  | .local _ .vmem, ⟨113, _⟩ => ⟨S1x1, .f32⟩
  | .local _ .vmem, ⟨114, _⟩ => ⟨S1x1x128, .f32⟩
  | .local _ .vmem, ⟨115, _⟩ => ⟨S1x1x128, .f32⟩
  | .local _ .vmem, ⟨116, _⟩ => ⟨S1x1x128, .f32⟩
  | .local _ .vmem, ⟨117, _⟩ => ⟨S1x1x128, .f32⟩
  | _, _ => ⟨S1024x1902, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_call0_v0 : Ref sig .tc := ⟨.hbm, 32, rfl⟩
abbrev main_v0 : Ref sig .tc := ⟨.hbm, 33, rfl⟩
abbrev main_c_0 : Ref sig .tc := ⟨.hbm, 34, rfl⟩
abbrev main_call1_v0 : Ref sig .tc := ⟨.hbm, 35, rfl⟩
abbrev main_v1 : Ref sig .tc := ⟨.hbm, 36, rfl⟩
abbrev main_v2 : Ref sig .tc := ⟨.hbm, 37, rfl⟩
abbrev main_c_1 : Ref sig .tc := ⟨.hbm, 38, rfl⟩
abbrev main_call2_v0 : Ref sig .tc := ⟨.hbm, 39, rfl⟩
abbrev main_v3 : Ref sig .tc := ⟨.hbm, 40, rfl⟩
abbrev main_c_2 : Ref sig .tc := ⟨.hbm, 41, rfl⟩
abbrev main_call3_v0 : Ref sig .tc := ⟨.hbm, 42, rfl⟩
abbrev main_v4 : Ref sig .tc := ⟨.hbm, 43, rfl⟩
abbrev main_c_3 : Ref sig .tc := ⟨.hbm, 44, rfl⟩
abbrev main_call4_v0 : Ref sig .tc := ⟨.hbm, 45, rfl⟩
abbrev main_v5 : Ref sig .tc := ⟨.hbm, 46, rfl⟩
abbrev main_c_4 : Ref sig .tc := ⟨.hbm, 47, rfl⟩
abbrev main_call5_v0 : Ref sig .tc := ⟨.hbm, 48, rfl⟩
abbrev main_v6 : Ref sig .tc := ⟨.hbm, 49, rfl⟩
abbrev main_c_5 : Ref sig .tc := ⟨.hbm, 50, rfl⟩
abbrev main_call6_v0 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17_0 : Ref sig .tc := ⟨.hbm, 62, rfl⟩
abbrev main_v17_1 : Ref sig .tc := ⟨.hbm, 63, rfl⟩
abbrev main_v17_2 : Ref sig .tc := ⟨.hbm, 64, rfl⟩
abbrev main_v17_3 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23_0 : Ref sig .tc := ⟨.hbm, 71, rfl⟩
abbrev main_v23_1 : Ref sig .tc := ⟨.hbm, 72, rfl⟩
abbrev main_v24 : Ref sig .tc := ⟨.hbm, 73, rfl⟩
abbrev main_v25 : Ref sig .tc := ⟨.hbm, 74, rfl⟩
abbrev main_v26_0 : Ref sig .tc := ⟨.hbm, 75, rfl⟩
abbrev main_v26_1 : Ref sig .tc := ⟨.hbm, 76, rfl⟩
abbrev main_v27 : Ref sig .tc := ⟨.hbm, 77, rfl⟩
abbrev main_v28 : Ref sig .tc := ⟨.hbm, 78, rfl⟩
abbrev main_v29_0 : Ref sig .tc := ⟨.hbm, 79, rfl⟩
abbrev main_v29_1 : Ref sig .tc := ⟨.hbm, 80, rfl⟩
abbrev main_v30 : Ref sig .tc := ⟨.hbm, 81, rfl⟩
abbrev main_v31 : Ref sig .tc := ⟨.hbm, 82, rfl⟩
abbrev main_v32_0 : Ref sig .tc := ⟨.hbm, 83, rfl⟩
abbrev main_v32_1 : Ref sig .tc := ⟨.hbm, 84, rfl⟩
abbrev main_v33 : Ref sig .tc := ⟨.hbm, 85, rfl⟩
abbrev main_v34 : Ref sig .tc := ⟨.hbm, 86, rfl⟩
abbrev main_cst : Ref sig .tc := ⟨.hbm, 87, rfl⟩
abbrev main_v35 : Ref sig .tc := ⟨.hbm, 88, rfl⟩
abbrev main_cst_6 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_7 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48_0 : Ref sig .tc := ⟨.hbm, 103, rfl⟩
abbrev main_v48_1 : Ref sig .tc := ⟨.hbm, 104, rfl⟩
abbrev main_v48_2 : Ref sig .tc := ⟨.hbm, 105, rfl⟩
abbrev main_v48_3 : Ref sig .tc := ⟨.hbm, 106, rfl⟩
abbrev main_v49 : Ref sig .tc := ⟨.hbm, 107, rfl⟩
abbrev main_v50 : Ref sig .tc := ⟨.hbm, 108, rfl⟩
abbrev main_v51_0 : Ref sig .tc := ⟨.hbm, 109, rfl⟩
abbrev main_v51_1 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_8 : Ref sig .tc := ⟨.hbm, 115, rfl⟩
abbrev main_v56 : Ref sig .tc := ⟨.hbm, 116, rfl⟩
abbrev main_cst_9 : Ref sig .tc := ⟨.hbm, 117, rfl⟩
abbrev main_v57 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc4_stg7_0 : Ref sig .tc := ⟨.vmem, 34, rfl⟩
abbrev cc4_stg7_1 : Ref sig .tc := ⟨.vmem, 35, rfl⟩
abbrev cc4_stg8_0 : Ref sig .tc := ⟨.vmem, 36, rfl⟩
abbrev cc4_stg8_1 : Ref sig .tc := ⟨.vmem, 37, rfl⟩
abbrev cc4_stg9_0 : Ref sig .tc := ⟨.vmem, 38, rfl⟩
abbrev cc4_stg9_1 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg7_0 : Ref sig .tc := ⟨.vmem, 55, rfl⟩
abbrev cc6_stg8_0 : Ref sig .tc := ⟨.vmem, 56, rfl⟩
abbrev cc6_stg9_0 : Ref sig .tc := ⟨.vmem, 57, rfl⟩
abbrev cc6_stg10_0 : Ref sig .tc := ⟨.vmem, 58, rfl⟩
abbrev cc7_stg0_0 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg6_0 : Ref sig .tc := ⟨.vmem, 65, rfl⟩
abbrev cc7_stg7_0 : Ref sig .tc := ⟨.vmem, 66, rfl⟩
abbrev cc7_stg8_0 : Ref sig .tc := ⟨.vmem, 67, rfl⟩
abbrev cc7_stg9_0 : Ref sig .tc := ⟨.vmem, 68, rfl⟩
abbrev cc7_stg10_0 : Ref sig .tc := ⟨.vmem, 69, rfl⟩
abbrev cc8_stg0_0 : Ref sig .tc := ⟨.vmem, 70, rfl⟩
abbrev cc8_stg1_0 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg7_0 : Ref sig .tc := ⟨.vmem, 77, rfl⟩
abbrev cc8_stg8_0 : Ref sig .tc := ⟨.vmem, 78, rfl⟩
abbrev cc8_stg9_0 : Ref sig .tc := ⟨.vmem, 79, rfl⟩
abbrev cc8_stg10_0 : Ref sig .tc := ⟨.vmem, 80, rfl⟩
abbrev cc9_stg0_0 : Ref sig .tc := ⟨.vmem, 81, rfl⟩
abbrev cc9_stg1_0 : Ref sig .tc := ⟨.vmem, 82, rfl⟩
abbrev cc9_stg2_0 : Ref sig .tc := ⟨.vmem, 83, rfl⟩
abbrev cc9_stg3_0 : Ref sig .tc := ⟨.vmem, 84, rfl⟩
abbrev cc9_stg4_0 : Ref sig .tc := ⟨.vmem, 85, rfl⟩
abbrev cc9_stg5_0 : Ref sig .tc := ⟨.vmem, 86, rfl⟩
abbrev cc9_stg6_0 : Ref sig .tc := ⟨.vmem, 87, rfl⟩
abbrev cc9_stg7_0 : Ref sig .tc := ⟨.vmem, 88, rfl⟩
abbrev cc9_stg8_0 : Ref sig .tc := ⟨.vmem, 89, rfl⟩
abbrev cc9_stg9_0 : Ref sig .tc := ⟨.vmem, 90, rfl⟩
abbrev cc9_stg10_0 : Ref sig .tc := ⟨.vmem, 91, rfl⟩
abbrev cc10_stg0_0 : Ref sig .tc := ⟨.vmem, 92, rfl⟩
abbrev cc10_stg1_0 : Ref sig .tc := ⟨.vmem, 93, rfl⟩
abbrev cc10_stg2_0 : Ref sig .tc := ⟨.vmem, 94, rfl⟩
abbrev cc10_stg3_0 : Ref sig .tc := ⟨.vmem, 95, rfl⟩
abbrev cc10_stg4_0 : Ref sig .tc := ⟨.vmem, 96, rfl⟩
abbrev cc10_stg5_0 : Ref sig .tc := ⟨.vmem, 97, rfl⟩
abbrev cc10_stg6_0 : Ref sig .tc := ⟨.vmem, 98, rfl⟩
abbrev cc10_stg7_0 : Ref sig .tc := ⟨.vmem, 99, rfl⟩
abbrev cc10_stg8_0 : Ref sig .tc := ⟨.vmem, 100, rfl⟩
abbrev cc10_stg9_0 : Ref sig .tc := ⟨.vmem, 101, rfl⟩
abbrev cc10_stg10_0 : Ref sig .tc := ⟨.vmem, 102, rfl⟩
abbrev cc10_stg11_0 : Ref sig .tc := ⟨.vmem, 103, rfl⟩
abbrev cc10_stg12_0 : Ref sig .tc := ⟨.vmem, 104, rfl⟩
abbrev cc10_stg13_0 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg2_0 : Ref sig .tc := ⟨.vmem, 109, rfl⟩
abbrev cc11_stg2_1 : Ref sig .tc := ⟨.vmem, 110, rfl⟩
abbrev cc11_stg3_0 : Ref sig .tc := ⟨.vmem, 111, rfl⟩
abbrev cc11_stg4_0 : Ref sig .tc := ⟨.vmem, 112, rfl⟩
abbrev cc11_stg5_0 : Ref sig .tc := ⟨.vmem, 113, rfl⟩
abbrev cc11_stg6_0 : Ref sig .tc := ⟨.vmem, 114, rfl⟩
abbrev cc11_stg6_1 : Ref sig .tc := ⟨.vmem, 115, rfl⟩
abbrev cc11_stg7_0 : Ref sig .tc := ⟨.vmem, 116, rfl⟩
abbrev cc11_stg7_1 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem3_1 : DmaSem sig := 29
abbrev cc4_sem4_0 : DmaSem sig := 30
abbrev cc4_sem5_0 : DmaSem sig := 31
abbrev cc4_sem6_0 : DmaSem sig := 32
abbrev cc4_sem6_1 : DmaSem sig := 33
abbrev cc4_sem7_0 : DmaSem sig := 34
abbrev cc4_sem7_1 : DmaSem sig := 35
abbrev cc4_sem8_0 : DmaSem sig := 36
abbrev cc4_sem8_1 : DmaSem sig := 37
abbrev cc4_sem9_0 : DmaSem sig := 38
abbrev cc4_sem9_1 : DmaSem sig := 39
abbrev cc5_sem0_0 : DmaSem sig := 40
abbrev cc5_sem1_0 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc6_sem8_0 : DmaSem sig := 56
abbrev cc6_sem9_0 : DmaSem sig := 57
abbrev cc6_sem10_0 : DmaSem sig := 58
abbrev cc7_sem0_0 : DmaSem sig := 59
abbrev cc7_sem1_0 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem6_0 : DmaSem sig := 65
abbrev cc7_sem7_0 : DmaSem sig := 66
abbrev cc7_sem8_0 : DmaSem sig := 67
abbrev cc7_sem9_0 : DmaSem sig := 68
abbrev cc7_sem10_0 : DmaSem sig := 69
abbrev cc8_sem0_0 : DmaSem sig := 70
abbrev cc8_sem1_0 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem7_0 : DmaSem sig := 77
abbrev cc8_sem8_0 : DmaSem sig := 78
abbrev cc8_sem9_0 : DmaSem sig := 79
abbrev cc8_sem10_0 : DmaSem sig := 80
abbrev cc9_sem0_0 : DmaSem sig := 81
abbrev cc9_sem1_0 : DmaSem sig := 82
abbrev cc9_sem2_0 : DmaSem sig := 83
abbrev cc9_sem3_0 : DmaSem sig := 84
abbrev cc9_sem4_0 : DmaSem sig := 85
abbrev cc9_sem5_0 : DmaSem sig := 86
abbrev cc9_sem6_0 : DmaSem sig := 87
abbrev cc9_sem7_0 : DmaSem sig := 88
abbrev cc9_sem8_0 : DmaSem sig := 89
abbrev cc9_sem9_0 : DmaSem sig := 90
abbrev cc9_sem10_0 : DmaSem sig := 91
abbrev cc10_sem0_0 : DmaSem sig := 92
abbrev cc10_sem1_0 : DmaSem sig := 93
abbrev cc10_sem2_0 : DmaSem sig := 94
abbrev cc10_sem3_0 : DmaSem sig := 95
abbrev cc10_sem4_0 : DmaSem sig := 96
abbrev cc10_sem5_0 : DmaSem sig := 97
abbrev cc10_sem6_0 : DmaSem sig := 98
abbrev cc10_sem7_0 : DmaSem sig := 99
abbrev cc10_sem8_0 : DmaSem sig := 100
abbrev cc10_sem9_0 : DmaSem sig := 101
abbrev cc10_sem10_0 : DmaSem sig := 102
abbrev cc10_sem11_0 : DmaSem sig := 103
abbrev cc10_sem12_0 : DmaSem sig := 104
abbrev cc10_sem13_0 : DmaSem sig := 105
abbrev cc11_sem0_0 : DmaSem sig := 106
abbrev cc11_sem0_1 : DmaSem sig := 107
abbrev cc11_sem1_0 : DmaSem sig := 108
abbrev cc11_sem2_0 : DmaSem sig := 109
abbrev cc11_sem2_1 : DmaSem sig := 110
abbrev cc11_sem3_0 : DmaSem sig := 111
abbrev cc11_sem4_0 : DmaSem sig := 112
abbrev cc11_sem5_0 : DmaSem sig := 113
abbrev cc11_sem6_0 : DmaSem sig := 114
abbrev cc11_sem6_1 : DmaSem sig := 115
abbrev cc11_sem7_0 : DmaSem sig := 116
abbrev cc11_sem7_1 : DmaSem sig := 117

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := .none

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1024x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S256x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := .none

abbrev stage5_0 : Fin 1 → Memref sig .tc .vmem S1024x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1024x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S1024x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev grid6 : Pipeline.Grid := .none

abbrev stage6_0 : Fin 1 → Memref sig .tc .vmem S1024x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S256x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev stage6_8 : Fin 1 → Memref sig .tc .vmem S64x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))

abbrev stage6_9 : Fin 1 → Memref sig .tc .vmem S1024x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))

abbrev grid7 : Pipeline.Grid := .none

abbrev stage7_0 : Fin 1 → Memref sig .tc .vmem S1024x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S1024x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S256x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S64x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))

abbrev stage7_8 : Fin 1 → Memref sig .tc .vmem S64x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))

abbrev stage7_9 : Fin 1 → Memref sig .tc .vmem S1024x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))

abbrev stage7_10 : Fin 1 → Memref sig .tc .vmem S1x1 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))

abbrev grid8 : Pipeline.Grid := .none

abbrev stage8_0 : Fin 1 → Memref sig .tc .vmem S1024x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S1024x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S256x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S64x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))

abbrev stage8_8 : Fin 1 → Memref sig .tc .vmem S64x1 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))

abbrev stage8_9 : Fin 1 → Memref sig .tc .vmem S1024x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))

abbrev stage8_10 : Fin 1 → Memref sig .tc .vmem S1x1 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))

abbrev grid9 : Pipeline.Grid := .none

abbrev stage9_0 : Fin 1 → Memref sig .tc .vmem S1024x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S1024x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S256x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))

abbrev stage9_6 : Fin 1 → Memref sig .tc .vmem S64x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))

abbrev stage9_7 : Fin 1 → Memref sig .tc .vmem S1x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))

abbrev stage9_8 : Fin 1 → Memref sig .tc .vmem S64x1 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))

abbrev stage9_9 : Fin 1 → Memref sig .tc .vmem S1024x64 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))

abbrev stage9_10 : Fin 1 → Memref sig .tc .vmem S1x1 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))

abbrev grid10 : Pipeline.Grid := .none

abbrev stage10_0 : Fin 1 → Memref sig .tc .vmem S1024x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S1024x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S1024x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S1024x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S1024x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))

abbrev stage10_5 : Fin 1 → Memref sig .tc .vmem S1x4 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))

abbrev stage10_6 : Fin 1 → Memref sig .tc .vmem S64x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))

abbrev stage10_7 : Fin 1 → Memref sig .tc .vmem S1x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))

abbrev stage10_8 : Fin 1 → Memref sig .tc .vmem S64x16 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))

abbrev stage10_9 : Fin 1 → Memref sig .tc .vmem S1x16 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))

abbrev stage10_10 : Fin 1 → Memref sig .tc .vmem S1024x64 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))

abbrev stage10_11 : Fin 1 → Memref sig .tc .vmem S1024x64 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))

abbrev stage10_12 : Fin 1 → Memref sig .tc .vmem S1024x16 .f32 := fun | 0 => Memref.whole cc10_stg12_0 | ⟨_ + 1, h⟩ => absurd h (Nat.not_lt.2 (Nat.le_add_left _ _))
abbrev sem10_12 : Fin 1 → DmaSem sig := fun | 0 => cc10_sem12_0 | ⟨_ + 1, h⟩ => absurd h (Nat.not_lt.2 (Nat.le_add_left _ _))

abbrev stage10_13 : Fin 1 → Memref sig .tc .vmem S16x1024 .f32 := fun | 0 => Memref.whole cc10_stg13_0 | ⟨_ + 1, h⟩ => absurd h (Nat.not_lt.2 (Nat.le_add_left _ _))
abbrev sem10_13 : Fin 1 → DmaSem sig := fun | 0 => cc10_sem13_0 | ⟨_ + 1, h⟩ => absurd h (Nat.not_lt.2 (Nat.le_add_left _ _))

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_7 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S128x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1024x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S128x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S16x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x16 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x1 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S1x1x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S1x1x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]
-- ==== ReferenceIdeal.lean ====
abbrev S1024x1902 : Shape := ⟨2, ![1024, 1902]⟩
abbrev S4096x334 : Shape := ⟨2, ![4096, 334]⟩
abbrev S60x64 : Shape := ⟨2, ![60, 64]⟩
abbrev S1024x1024 : Shape := ⟨2, ![1024, 1024]⟩
abbrev S1024x4096 : Shape := ⟨2, ![1024, 4096]⟩
abbrev S1024x60 : Shape := ⟨2, ![1024, 60]⟩
abbrev S1902x256 : Shape := ⟨2, ![1902, 256]⟩
abbrev S256 : Shape := ⟨1, ![256]⟩
abbrev S334x256 : Shape := ⟨2, ![334, 256]⟩
abbrev S64x256 : Shape := ⟨2, ![64, 256]⟩
abbrev S256x256 : Shape := ⟨2, ![256, 256]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩
abbrev S4096x256 : Shape := ⟨2, ![4096, 256]⟩
abbrev S60x256 : Shape := ⟨2, ![60, 256]⟩
abbrev S1024x64 : Shape := ⟨2, ![1024, 64]⟩
abbrev S1x64 : Shape := ⟨2, ![1, 64]⟩
abbrev S4 : Shape := ⟨1, ![4]⟩
abbrev S64x1024 : Shape := ⟨2, ![64, 1024]⟩
abbrev S1024x2 : Shape := ⟨2, ![1024, 2]⟩
abbrev S1024x1x64 : Shape := ⟨3, ![1024, 1, 64]⟩
abbrev S1024x1x1024x64 : Shape := ⟨4, ![1024, 1, 1024, 64]⟩
abbrev S1024x1024x64 : Shape := ⟨3, ![1024, 1024, 64]⟩
abbrev S1048576x64 : Shape := ⟨2, ![1048576, 64]⟩
abbrev S1x1024x64 : Shape := ⟨3, ![1, 1024, 64]⟩
abbrev S1x1024x1024x64 : Shape := ⟨4, ![1, 1024, 1024, 64]⟩
abbrev S1048576x16 : Shape := ⟨2, ![1048576, 16]⟩
abbrev S1x16 : Shape := ⟨2, ![1, 16]⟩
abbrev S1048576x1 : Shape := ⟨2, ![1048576, 1]⟩
abbrev S1x1 : Shape := ⟨2, ![1, 1]⟩

abbrev nBuf : Space → Nat
  | .hbm => 489
  | .vmem => 0
  | .smem => 0
  | _ => 0

abbrev hbmTy0_0 (i : Nat) : BufTy := match i % 128 with
  | 0 => ⟨S1024x1902, .f32⟩
  | 1 => ⟨S4096x334, .f32⟩
  | 2 => ⟨S60x64, .f32⟩
  | 3 => ⟨S1024x1902, .f32⟩
  | 4 => ⟨S1024x1024, .f32⟩
  | 5 => ⟨S1024x1024, .f32⟩
  | 6 => ⟨S1024x1024, .f32⟩
  | 7 => ⟨S1024x1024, .f32⟩
  | 8 => ⟨S1024x4096, .f32⟩
  | 9 => ⟨S1024x60, .f32⟩
  | 10 => ⟨S1902x256, .f32⟩
  | 11 => ⟨S256, .f32⟩
  | 12 => ⟨S334x256, .f32⟩
  | 13 => ⟨S256, .f32⟩
  | 14 => ⟨S64x256, .f32⟩
  | 15 => ⟨S256, .f32⟩
  | 16 => ⟨S256x256, .f32⟩
  | 17 => ⟨S256x256, .f32⟩
  | 18 => ⟨S256x64, .f32⟩
  | 19 => ⟨S64, .f32⟩
  | 20 => ⟨S64x64, .f32⟩
  | 21 => ⟨S64, .f32⟩
  | 22 => ⟨S64x64, .f32⟩
  | 23 => ⟨S64, .f32⟩
  | 24 => ⟨S64, .f32⟩
  | 25 => ⟨S64x64, .f32⟩
  | 26 => ⟨S64, .f32⟩
  | 27 => ⟨S64x16, .f32⟩
  | 28 => ⟨S16, .f32⟩
  | 29 => ⟨S16x1, .f32⟩
  | 30 => ⟨S1, .f32⟩
  | 31 => ⟨S_, .f32⟩
  | 32 => ⟨S1024, .f32⟩
  | 33 => ⟨S1024x1, .f32⟩
  | 34 => ⟨S_, .f32⟩
  | 35 => ⟨S1024x1, .f32⟩
  | 36 => ⟨S1024x1, .i1⟩
  | 37 => ⟨S_, .f32⟩
  | 38 => ⟨S_, .f32⟩
  | 39 => ⟨S1024x1, .f32⟩
  | 40 => ⟨S1024x1, .f32⟩
  | 41 => ⟨S_, .f32⟩
  | 42 => ⟨S1024, .f32⟩
  | 43 => ⟨S1024x1, .f32⟩
  | 44 => ⟨S_, .f32⟩
  | 45 => ⟨S1024x1, .f32⟩
  | 46 => ⟨S1024x1, .i1⟩
  | 47 => ⟨S_, .f32⟩
  | 48 => ⟨S_, .f32⟩
  | 49 => ⟨S1024x1, .f32⟩
  | 50 => ⟨S1024x1, .f32⟩
  | 51 => ⟨S1024x256, .f32⟩
  | 52 => ⟨S1x256, .f32⟩
  | 53 => ⟨S1024x256, .f32⟩
  | 54 => ⟨S1024x256, .f32⟩
  | 55 => ⟨S_, .f32⟩
  | 56 => ⟨S1024x256, .f32⟩
  | 57 => ⟨S1024x256, .i1⟩
  | 58 => ⟨S_, .f32⟩
  | 59 => ⟨S1024x256, .f32⟩
  | 60 => ⟨S1024x256, .i1⟩
  | 61 => ⟨S_, .f32⟩
  | 62 => ⟨S_, .f32⟩
  | 63 => ⟨S1024x256, .f32⟩
  | 64 => ⟨S1024x256, .f32⟩
  | 65 => ⟨S1024x256, .f32⟩
  | 66 => ⟨S_, .f32⟩
  | 67 => ⟨S1024x256, .f32⟩
  | 68 => ⟨S1024x256, .f32⟩
  | 69 => ⟨S1024x256, .f32⟩
  | 70 => ⟨S4096x256, .f32⟩
  | 71 => ⟨S1x256, .f32⟩
  | 72 => ⟨S4096x256, .f32⟩
  | 73 => ⟨S4096x256, .f32⟩
  | 74 => ⟨S_, .f32⟩
  | 75 => ⟨S4096x256, .f32⟩
  | 76 => ⟨S4096x256, .i1⟩
  | 77 => ⟨S_, .f32⟩
  | 78 => ⟨S4096x256, .f32⟩
  | 79 => ⟨S4096x256, .i1⟩
  | 80 => ⟨S_, .f32⟩
  | 81 => ⟨S_, .f32⟩
  | 82 => ⟨S4096x256, .f32⟩
  | 83 => ⟨S4096x256, .f32⟩
  | 84 => ⟨S4096x256, .f32⟩
  | 85 => ⟨S_, .f32⟩
  | 86 => ⟨S4096x256, .f32⟩
  | 87 => ⟨S4096x256, .f32⟩
  | 88 => ⟨S4096x256, .f32⟩
  | 89 => ⟨S60x256, .f32⟩
  | 90 => ⟨S1x256, .f32⟩
  | 91 => ⟨S60x256, .f32⟩
  | 92 => ⟨S60x256, .f32⟩
  | 93 => ⟨S_, .f32⟩
  | 94 => ⟨S60x256, .f32⟩
  | 95 => ⟨S60x256, .i1⟩
  | 96 => ⟨S_, .f32⟩
  | 97 => ⟨S60x256, .f32⟩
  | 98 => ⟨S60x256, .i1⟩
  | 99 => ⟨S_, .f32⟩
  | 100 => ⟨S_, .f32⟩
  | 101 => ⟨S60x256, .f32⟩
  | 102 => ⟨S60x256, .f32⟩
  | 103 => ⟨S60x256, .f32⟩
  | 104 => ⟨S_, .f32⟩
  | 105 => ⟨S60x256, .f32⟩
  | 106 => ⟨S60x256, .f32⟩
  | 107 => ⟨S60x256, .f32⟩
  | 108 => ⟨S1024x256, .f32⟩
  | 109 => ⟨S1024x256, .f32⟩
  | 110 => ⟨S1024x256, .f32⟩
  | 111 => ⟨S1024x256, .f32⟩
  | 112 => ⟨S1024x256, .f32⟩
  | 113 => ⟨S1024x256, .f32⟩
  | 114 => ⟨S1024x256, .f32⟩
  | 115 => ⟨S1024x256, .f32⟩
  | 116 => ⟨S_, .f32⟩
  | 117 => ⟨S1024x256, .f32⟩
  | 118 => ⟨S1024x256, .i1⟩
  | 119 => ⟨S_, .f32⟩
  | 120 => ⟨S1024x256, .f32⟩
  | 121 => ⟨S1024x256, .i1⟩
  | 122 => ⟨S_, .f32⟩
  | 123 => ⟨S_, .f32⟩
  | 124 => ⟨S1024x256, .f32⟩
  | 125 => ⟨S1024x256, .f32⟩
  | 126 => ⟨S1024x256, .f32⟩
  | 127 => ⟨S_, .f32⟩
  | _ => ⟨S1024x1902, .f32⟩

abbrev hbmTy0_1 (i : Nat) : BufTy := match i % 128 with
  | 0 => ⟨S1024x256, .f32⟩
  | 1 => ⟨S1024x256, .f32⟩
  | 2 => ⟨S1024x256, .f32⟩
  | 3 => ⟨S1024x256, .f32⟩
  | 4 => ⟨S1024x256, .f32⟩
  | 5 => ⟨S_, .f32⟩
  | 6 => ⟨S1024x256, .f32⟩
  | 7 => ⟨S1024x256, .i1⟩
  | 8 => ⟨S_, .f32⟩
  | 9 => ⟨S1024x256, .f32⟩
  | 10 => ⟨S1024x256, .i1⟩
  | 11 => ⟨S_, .f32⟩
  | 12 => ⟨S_, .f32⟩
  | 13 => ⟨S1024x256, .f32⟩
  | 14 => ⟨S1024x256, .f32⟩
  | 15 => ⟨S1024x256, .f32⟩
  | 16 => ⟨S_, .f32⟩
  | 17 => ⟨S1024x256, .f32⟩
  | 18 => ⟨S1024x256, .f32⟩
  | 19 => ⟨S1024x256, .f32⟩
  | 20 => ⟨S1024x256, .f32⟩
  | 21 => ⟨S1x256, .f32⟩
  | 22 => ⟨S1024x256, .f32⟩
  | 23 => ⟨S1024x256, .f32⟩
  | 24 => ⟨S_, .f32⟩
  | 25 => ⟨S1024x256, .f32⟩
  | 26 => ⟨S1024x256, .i1⟩
  | 27 => ⟨S_, .f32⟩
  | 28 => ⟨S1024x256, .f32⟩
  | 29 => ⟨S1024x256, .i1⟩
  | 30 => ⟨S_, .f32⟩
  | 31 => ⟨S_, .f32⟩
  | 32 => ⟨S1024x256, .f32⟩
  | 33 => ⟨S1024x256, .f32⟩
  | 34 => ⟨S1024x256, .f32⟩
  | 35 => ⟨S_, .f32⟩
  | 36 => ⟨S1024x256, .f32⟩
  | 37 => ⟨S1024x256, .f32⟩
  | 38 => ⟨S1024x256, .f32⟩
  | 39 => ⟨S1024x256, .f32⟩
  | 40 => ⟨S1024x256, .f32⟩
  | 41 => ⟨S_, .f32⟩
  | 42 => ⟨S1024x256, .f32⟩
  | 43 => ⟨S1024x256, .i1⟩
  | 44 => ⟨S_, .f32⟩
  | 45 => ⟨S1024x256, .f32⟩
  | 46 => ⟨S1024x256, .i1⟩
  | 47 => ⟨S_, .f32⟩
  | 48 => ⟨S_, .f32⟩
  | 49 => ⟨S1024x256, .f32⟩
  | 50 => ⟨S1024x256, .f32⟩
  | 51 => ⟨S1024x256, .f32⟩
  | 52 => ⟨S_, .f32⟩
  | 53 => ⟨S1024x256, .f32⟩
  | 54 => ⟨S1024x256, .f32⟩
  | 55 => ⟨S1024x256, .f32⟩
  | 56 => ⟨S1024x256, .f32⟩
  | 57 => ⟨S1024x256, .f32⟩
  | 58 => ⟨S_, .f32⟩
  | 59 => ⟨S1024x256, .f32⟩
  | 60 => ⟨S1024x256, .i1⟩
  | 61 => ⟨S_, .f32⟩
  | 62 => ⟨S1024x256, .f32⟩
  | 63 => ⟨S1024x256, .i1⟩
  | 64 => ⟨S_, .f32⟩
  | 65 => ⟨S_, .f32⟩
  | 66 => ⟨S1024x256, .f32⟩
  | 67 => ⟨S1024x256, .f32⟩
  | 68 => ⟨S1024x256, .f32⟩
  | 69 => ⟨S_, .f32⟩
  | 70 => ⟨S1024x256, .f32⟩
  | 71 => ⟨S1024x256, .f32⟩
  | 72 => ⟨S1024x256, .f32⟩
  | 73 => ⟨S1024x1024, .f32⟩
  | 74 => ⟨S_, .f32⟩
  | 75 => ⟨S1024x1024, .f32⟩
  | 76 => ⟨S1024x1024, .f32⟩
  | 77 => ⟨S1024x64, .f32⟩
  | 78 => ⟨S1024x64, .f32⟩
  | 79 => ⟨S1x64, .f32⟩
  | 80 => ⟨S1024x64, .f32⟩
  | 81 => ⟨S1024x64, .f32⟩
  | 82 => ⟨S_, .f32⟩
  | 83 => ⟨S1024x64, .f32⟩
  | 84 => ⟨S1024x64, .f32⟩
  | 85 => ⟨S1024x64, .f32⟩
  | 86 => ⟨S1024x64, .f32⟩
  | 87 => ⟨S1x64, .f32⟩
  | 88 => ⟨S1024x64, .f32⟩
  | 89 => ⟨S1024x64, .f32⟩
  | 90 => ⟨S1024x64, .f32⟩
  | 91 => ⟨S1024x64, .f32⟩
  | 92 => ⟨S1x64, .f32⟩
  | 93 => ⟨S1024x64, .f32⟩
  | 94 => ⟨S1024x64, .f32⟩
  | 95 => ⟨S_, .f32⟩
  | 96 => ⟨S1024x64, .f32⟩
  | 97 => ⟨S1024x64, .f32⟩
  | 98 => ⟨S1024x64, .f32⟩
  | 99 => ⟨S1024x64, .f32⟩
  | 100 => ⟨S1x64, .f32⟩
  | 101 => ⟨S1024x64, .f32⟩
  | 102 => ⟨S1024x64, .f32⟩
  | 103 => ⟨S1024x64, .f32⟩
  | 104 => ⟨S1024x64, .f32⟩
  | 105 => ⟨S1x64, .f32⟩
  | 106 => ⟨S1024x64, .f32⟩
  | 107 => ⟨S1024x64, .f32⟩
  | 108 => ⟨S_, .f32⟩
  | 109 => ⟨S1024x64, .f32⟩
  | 110 => ⟨S1024x64, .f32⟩
  | 111 => ⟨S1024x64, .f32⟩
  | 112 => ⟨S1024x64, .f32⟩
  | 113 => ⟨S1x64, .f32⟩
  | 114 => ⟨S1024x64, .f32⟩
  | 115 => ⟨S1024x64, .f32⟩
  | 116 => ⟨S1024x64, .f32⟩
  | 117 => ⟨S1024x64, .f32⟩
  | 118 => ⟨S1x64, .f32⟩
  | 119 => ⟨S1024x64, .f32⟩
  | 120 => ⟨S1024x64, .f32⟩
  | 121 => ⟨S_, .f32⟩
  | 122 => ⟨S1024x64, .f32⟩
  | 123 => ⟨S1024x64, .f32⟩
  | 124 => ⟨S1024x64, .f32⟩
  | 125 => ⟨S1024x64, .f32⟩
  | 126 => ⟨S1x64, .f32⟩
  | 127 => ⟨S1024x64, .f32⟩
  | _ => ⟨S1024x1902, .f32⟩

abbrev hbmTy0_2 (i : Nat) : BufTy := match i % 128 with
  | 0 => ⟨S1024x64, .f32⟩
  | 1 => ⟨S1024x64, .f32⟩
  | 2 => ⟨S1024x64, .f32⟩
  | 3 => ⟨S1x64, .f32⟩
  | 4 => ⟨S1024x64, .f32⟩
  | 5 => ⟨S1024x64, .f32⟩
  | 6 => ⟨S_, .f32⟩
  | 7 => ⟨S1024x64, .f32⟩
  | 8 => ⟨S1024x64, .f32⟩
  | 9 => ⟨S1024x64, .f32⟩
  | 10 => ⟨S1024x64, .f32⟩
  | 11 => ⟨S1x64, .f32⟩
  | 12 => ⟨S1024x64, .f32⟩
  | 13 => ⟨S1024x64, .f32⟩
  | 14 => ⟨S1024x64, .f32⟩
  | 15 => ⟨S_, .f32⟩
  | 16 => ⟨S1024, .f32⟩
  | 17 => ⟨S1024x1, .f32⟩
  | 18 => ⟨S1024x1, .f32⟩
  | 19 => ⟨S_, .f32⟩
  | 20 => ⟨S_, .f32⟩
  | 21 => ⟨S1024x1, .f32⟩
  | 22 => ⟨S1024x1, .f32⟩
  | 23 => ⟨S1024x64, .f32⟩
  | 24 => ⟨S1024x64, .f32⟩
  | 25 => ⟨S1024x64, .f32⟩
  | 26 => ⟨S_, .f32⟩
  | 27 => ⟨S1024, .f32⟩
  | 28 => ⟨S1024x1, .f32⟩
  | 29 => ⟨S1024x1, .f32⟩
  | 30 => ⟨S_, .f32⟩
  | 31 => ⟨S_, .f32⟩
  | 32 => ⟨S1024x1, .f32⟩
  | 33 => ⟨S1024x1, .f32⟩
  | 34 => ⟨S1024x64, .f32⟩
  | 35 => ⟨S1024x64, .f32⟩
  | 36 => ⟨S1024x64, .f32⟩
  | 37 => ⟨S_, .f32⟩
  | 38 => ⟨S1024, .f32⟩
  | 39 => ⟨S1024x1, .f32⟩
  | 40 => ⟨S1024x1, .f32⟩
  | 41 => ⟨S_, .f32⟩
  | 42 => ⟨S_, .f32⟩
  | 43 => ⟨S1024x1, .f32⟩
  | 44 => ⟨S1024x1, .f32⟩
  | 45 => ⟨S1024x64, .f32⟩
  | 46 => ⟨S1024x64, .f32⟩
  | 47 => ⟨S1024x64, .f32⟩
  | 48 => ⟨S_, .f32⟩
  | 49 => ⟨S1024, .f32⟩
  | 50 => ⟨S1024x1, .f32⟩
  | 51 => ⟨S1024x1, .f32⟩
  | 52 => ⟨S_, .f32⟩
  | 53 => ⟨S_, .f32⟩
  | 54 => ⟨S1024x1, .f32⟩
  | 55 => ⟨S1024x1, .f32⟩
  | 56 => ⟨S1024x64, .f32⟩
  | 57 => ⟨S1024x64, .f32⟩
  | 58 => ⟨S1024x64, .f32⟩
  | 59 => ⟨S1x64, .f32⟩
  | 60 => ⟨S1024x64, .f32⟩
  | 61 => ⟨S1024x64, .f32⟩
  | 62 => ⟨S1024x64, .f32⟩
  | 63 => ⟨S1024, .f32⟩
  | 64 => ⟨S_, .f32⟩
  | 65 => ⟨S_, .f32⟩
  | 66 => ⟨S_, .f32⟩
  | 67 => ⟨S_, .f32⟩
  | 68 => ⟨S1024x64, .f32⟩
  | 69 => ⟨S1x64, .f32⟩
  | 70 => ⟨S1024x64, .f32⟩
  | 71 => ⟨S1024x64, .f32⟩
  | 72 => ⟨S1024x64, .f32⟩
  | 73 => ⟨S1024, .f32⟩
  | 74 => ⟨S_, .f32⟩
  | 75 => ⟨S_, .f32⟩
  | 76 => ⟨S_, .f32⟩
  | 77 => ⟨S_, .f32⟩
  | 78 => ⟨S1024x64, .f32⟩
  | 79 => ⟨S1x64, .f32⟩
  | 80 => ⟨S1024x64, .f32⟩
  | 81 => ⟨S1024x64, .f32⟩
  | 82 => ⟨S1024x64, .f32⟩
  | 83 => ⟨S1024, .f32⟩
  | 84 => ⟨S_, .f32⟩
  | 85 => ⟨S_, .f32⟩
  | 86 => ⟨S_, .f32⟩
  | 87 => ⟨S_, .f32⟩
  | 88 => ⟨S1024x64, .f32⟩
  | 89 => ⟨S1x64, .f32⟩
  | 90 => ⟨S1024x64, .f32⟩
  | 91 => ⟨S1024x64, .f32⟩
  | 92 => ⟨S1024x64, .f32⟩
  | 93 => ⟨S1024, .f32⟩
  | 94 => ⟨S_, .f32⟩
  | 95 => ⟨S_, .f32⟩
  | 96 => ⟨S_, .f32⟩
  | 97 => ⟨S_, .f32⟩
  | 98 => ⟨S1, .f32⟩
  | 99 => ⟨S1, .f32⟩
  | 100 => ⟨S1, .f32⟩
  | 101 => ⟨S1, .f32⟩
  | 102 => ⟨S4, .f32⟩
  | 103 => ⟨S_, .f32⟩
  | 104 => ⟨S_, .f32⟩
  | 105 => ⟨S_, .f32⟩
  | 106 => ⟨S_, .f32⟩
  | 107 => ⟨S1, .f32⟩
  | 108 => ⟨S4, .f32⟩
  | 109 => ⟨S4, .f32⟩
  | 110 => ⟨S4, .f32⟩
  | 111 => ⟨S_, .f32⟩
  | 112 => ⟨S_, .f32⟩
  | 113 => ⟨S1, .f32⟩
  | 114 => ⟨S4, .f32⟩
  | 115 => ⟨S4, .f32⟩
  | 116 => ⟨S1, .f32⟩
  | 117 => ⟨S_, .f32⟩
  | 118 => ⟨S1024x64, .f32⟩
  | 119 => ⟨S1024x64, .f32⟩
  | 120 => ⟨S_, .f32⟩
  | 121 => ⟨S1024x64, .f32⟩
  | 122 => ⟨S1024x64, .f32⟩
  | 123 => ⟨S1, .f32⟩
  | 124 => ⟨S_, .f32⟩
  | 125 => ⟨S1024x64, .f32⟩
  | 126 => ⟨S1024x64, .f32⟩
  | 127 => ⟨S1024x64, .f32⟩
  | _ => ⟨S1024x1902, .f32⟩

abbrev hbmTy0_3 (i : Nat) : BufTy := match i % 128 with
  | 0 => ⟨S1, .f32⟩
  | 1 => ⟨S_, .f32⟩
  | 2 => ⟨S1024x64, .f32⟩
  | 3 => ⟨S1024x64, .f32⟩
  | 4 => ⟨S1024x64, .f32⟩
  | 5 => ⟨S1, .f32⟩
  | 6 => ⟨S_, .f32⟩
  | 7 => ⟨S1024x64, .f32⟩
  | 8 => ⟨S1024x64, .f32⟩
  | 9 => ⟨S1024x64, .f32⟩
  | 10 => ⟨S1024x64, .f32⟩
  | 11 => ⟨S1x64, .f32⟩
  | 12 => ⟨S1024x64, .f32⟩
  | 13 => ⟨S1024x64, .f32⟩
  | 14 => ⟨S1024x64, .f32⟩
  | 15 => ⟨S1024x64, .f32⟩
  | 16 => ⟨S_, .f32⟩
  | 17 => ⟨S1024, .f32⟩
  | 18 => ⟨S1024x1, .f32⟩
  | 19 => ⟨S1024x1, .f32⟩
  | 20 => ⟨S_, .f32⟩
  | 21 => ⟨S_, .f32⟩
  | 22 => ⟨S1024x1, .f32⟩
  | 23 => ⟨S1024x1, .f32⟩
  | 24 => ⟨S1024x64, .f32⟩
  | 25 => ⟨S1024x64, .f32⟩
  | 26 => ⟨S1024x64, .f32⟩
  | 27 => ⟨S1x64, .f32⟩
  | 28 => ⟨S1024x64, .f32⟩
  | 29 => ⟨S1024x64, .f32⟩
  | 30 => ⟨S1024x64, .f32⟩
  | 31 => ⟨S1024x64, .f32⟩
  | 32 => ⟨S_, .f32⟩
  | 33 => ⟨S1024, .f32⟩
  | 34 => ⟨S1024x1, .f32⟩
  | 35 => ⟨S1024x1, .f32⟩
  | 36 => ⟨S_, .f32⟩
  | 37 => ⟨S_, .f32⟩
  | 38 => ⟨S1024x1, .f32⟩
  | 39 => ⟨S1024x1, .f32⟩
  | 40 => ⟨S1024x64, .f32⟩
  | 41 => ⟨S1024x64, .f32⟩
  | 42 => ⟨S64x1024, .f32⟩
  | 43 => ⟨S1024x1024, .f32⟩
  | 44 => ⟨S_, .f32⟩
  | 45 => ⟨S1024x1024, .f32⟩
  | 46 => ⟨S1024x1024, .f32⟩
  | 47 => ⟨S1024x1024, .f32⟩
  | 48 => ⟨S1024, .i32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S1024x1, .i32⟩
  | 66 => ⟨S1024x2, .i32⟩
  | 67 => ⟨S1024, .f32⟩
  | 68 => ⟨S1024x1x64, .f32⟩
  | 69 => ⟨S1024x1x1024x64, .f32⟩
  | 70 => ⟨S1024x1024x64, .f32⟩
  | 71 => ⟨S1048576x64, .f32⟩
  | 72 => ⟨S1x1024x64, .f32⟩
  | 73 => ⟨S1x1024x1024x64, .f32⟩
  | 74 => ⟨S1024x1024x64, .f32⟩
  | 75 => ⟨S1048576x64, .f32⟩
  | 76 => ⟨S1048576x64, .f32⟩
  | 77 => ⟨S1048576x16, .f32⟩
  | 78 => ⟨S1x16, .f32⟩
  | 79 => ⟨S1048576x16, .f32⟩
  | 80 => ⟨S1048576x16, .f32⟩
  | 81 => ⟨S1048576x16, .f32⟩
  | 82 => ⟨S1048576x1, .f32⟩
  | 83 => ⟨S1x1, .f32⟩
  | 84 => ⟨S1048576x1, .f32⟩
  | 85 => ⟨S1048576x1, .f32⟩
  | 86 => ⟨S1048576x1, .f32⟩
  | 87 => ⟨S1048576x1, .f32⟩
  | 88 => ⟨S_, .f32⟩
  | 89 => ⟨S1048576x1, .f32⟩
  | 90 => ⟨S1048576x1, .f32⟩
  | 91 => ⟨S_, .f32⟩
  | 92 => ⟨S1048576x1, .f32⟩
  | 93 => ⟨S1048576x1, .f32⟩
  | 94 => ⟨S1024x1024, .f32⟩
  | 95 => ⟨S1024x1024, .f32⟩
  | 96 => ⟨S_, .f32⟩
  | 97 => ⟨S1024, .f32⟩
  | 98 => ⟨S1024, .f32⟩
  | 99 => ⟨S1024, .f32⟩
  | 100 => ⟨S1024, .f32⟩
  | 101 => ⟨S_, .f32⟩
  | 102 => ⟨S_, .f32⟩
  | 103 => ⟨S_, .f32⟩
  | 104 => ⟨S_, .f32⟩
  | _ => ⟨S1024x1902, .f32⟩

abbrev hbmTy (i : Nat) : BufTy := match i / 128 with
  | 0 => hbmTy0_0 i
  | 1 => hbmTy0_1 i
  | 2 => hbmTy0_2 i
  | 3 => hbmTy0_3 i
  | _ => ⟨S1024x1902, .f32⟩

abbrev bufTy : (tb : Table) → Fin (tcTables nBuf tb) → BufTy
  | .hbm, ⟨i, _⟩ => hbmTy i
  | _, _ => ⟨S1024x1902, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_cst : Ref sig .tc := ⟨.hbm, 31, rfl⟩
abbrev main_v0 : Ref sig .tc := ⟨.hbm, 32, rfl⟩
abbrev main_v1 : Ref sig .tc := ⟨.hbm, 33, rfl⟩
abbrev main_cst_0 : Ref sig .tc := ⟨.hbm, 34, rfl⟩
abbrev main_v2 : Ref sig .tc := ⟨.hbm, 35, rfl⟩
abbrev main_v3 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v4 : Ref sig .tc := ⟨.hbm, 40, rfl⟩
abbrev main_cst_2 : Ref sig .tc := ⟨.hbm, 41, rfl⟩
abbrev main_v5 : Ref sig .tc := ⟨.hbm, 42, rfl⟩
abbrev main_v6 : Ref sig .tc := ⟨.hbm, 43, rfl⟩
abbrev main_cst_3 : Ref sig .tc := ⟨.hbm, 44, rfl⟩
abbrev main_v7 : Ref sig .tc := ⟨.hbm, 45, rfl⟩
abbrev main_v8 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_cst_0 : Ref sig .tc := ⟨.hbm, 58, rfl⟩
abbrev main_call2_v2 : Ref sig .tc := ⟨.hbm, 59, rfl⟩
abbrev main_call2_v3 : Ref sig .tc := ⟨.hbm, 60, rfl⟩
abbrev main_call2_cst_1 : Ref sig .tc := ⟨.hbm, 61, rfl⟩
abbrev main_call2_call0_v0 : Ref sig .tc := ⟨.hbm, 62, rfl⟩
abbrev main_call2_call0_v1 : Ref sig .tc := ⟨.hbm, 63, rfl⟩
abbrev main_call2_v4 : Ref sig .tc := ⟨.hbm, 64, rfl⟩
abbrev main_call2_v5 : Ref sig .tc := ⟨.hbm, 65, rfl⟩
abbrev main_call2_cst_2 : Ref sig .tc := ⟨.hbm, 66, rfl⟩
abbrev main_call2_v6 : Ref sig .tc := ⟨.hbm, 67, rfl⟩
abbrev main_call2_v7 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_cst_0 : Ref sig .tc := ⟨.hbm, 77, rfl⟩
abbrev main_call3_v2 : Ref sig .tc := ⟨.hbm, 78, rfl⟩
abbrev main_call3_v3 : Ref sig .tc := ⟨.hbm, 79, rfl⟩
abbrev main_call3_cst_1 : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_v4 : Ref sig .tc := ⟨.hbm, 83, rfl⟩
abbrev main_call3_v5 : Ref sig .tc := ⟨.hbm, 84, rfl⟩
abbrev main_call3_cst_2 : Ref sig .tc := ⟨.hbm, 85, rfl⟩
abbrev main_call3_v6 : Ref sig .tc := ⟨.hbm, 86, rfl⟩
abbrev main_call3_v7 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_call4_cst : Ref sig .tc := ⟨.hbm, 93, rfl⟩
abbrev main_call4_v0 : Ref sig .tc := ⟨.hbm, 94, rfl⟩
abbrev main_call4_v1 : Ref sig .tc := ⟨.hbm, 95, rfl⟩
abbrev main_call4_cst_0 : Ref sig .tc := ⟨.hbm, 96, rfl⟩
abbrev main_call4_v2 : Ref sig .tc := ⟨.hbm, 97, rfl⟩
abbrev main_call4_v3 : Ref sig .tc := ⟨.hbm, 98, rfl⟩
abbrev main_call4_cst_1 : Ref sig .tc := ⟨.hbm, 99, rfl⟩
abbrev main_call4_call0_v0 : Ref sig .tc := ⟨.hbm, 100, rfl⟩
abbrev main_call4_call0_v1 : Ref sig .tc := ⟨.hbm, 101, rfl⟩
abbrev main_call4_v4 : Ref sig .tc := ⟨.hbm, 102, rfl⟩
abbrev main_call4_v5 : Ref sig .tc := ⟨.hbm, 103, rfl⟩
abbrev main_call4_cst_2 : Ref sig .tc := ⟨.hbm, 104, rfl⟩
abbrev main_call4_v6 : Ref sig .tc := ⟨.hbm, 105, rfl⟩
abbrev main_call4_v7 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_call5_cst : Ref sig .tc := ⟨.hbm, 116, rfl⟩
abbrev main_call5_v0 : Ref sig .tc := ⟨.hbm, 117, rfl⟩
abbrev main_call5_v1 : Ref sig .tc := ⟨.hbm, 118, rfl⟩
abbrev main_call5_cst_0 : Ref sig .tc := ⟨.hbm, 119, rfl⟩
abbrev main_call5_v2 : Ref sig .tc := ⟨.hbm, 120, rfl⟩
abbrev main_call5_v3 : Ref sig .tc := ⟨.hbm, 121, rfl⟩
abbrev main_call5_cst_1 : Ref sig .tc := ⟨.hbm, 122, rfl⟩
abbrev main_call5_call0_v0 : Ref sig .tc := ⟨.hbm, 123, rfl⟩
abbrev main_call5_call0_v1 : Ref sig .tc := ⟨.hbm, 124, rfl⟩
abbrev main_call5_v4 : Ref sig .tc := ⟨.hbm, 125, rfl⟩
abbrev main_call5_v5 : Ref sig .tc := ⟨.hbm, 126, rfl⟩
abbrev main_call5_cst_2 : Ref sig .tc := ⟨.hbm, 127, rfl⟩
abbrev main_call5_v6 : Ref sig .tc := ⟨.hbm, 128, rfl⟩
abbrev main_call5_v7 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_call6_cst : Ref sig .tc := ⟨.hbm, 133, rfl⟩
abbrev main_call6_v0 : Ref sig .tc := ⟨.hbm, 134, rfl⟩
abbrev main_call6_v1 : Ref sig .tc := ⟨.hbm, 135, rfl⟩
abbrev main_call6_cst_0 : Ref sig .tc := ⟨.hbm, 136, rfl⟩
abbrev main_call6_v2 : Ref sig .tc := ⟨.hbm, 137, rfl⟩
abbrev main_call6_v3 : Ref sig .tc := ⟨.hbm, 138, rfl⟩
abbrev main_call6_cst_1 : Ref sig .tc := ⟨.hbm, 139, rfl⟩
abbrev main_call6_call0_v0 : Ref sig .tc := ⟨.hbm, 140, rfl⟩
abbrev main_call6_call0_v1 : Ref sig .tc := ⟨.hbm, 141, rfl⟩
abbrev main_call6_v4 : Ref sig .tc := ⟨.hbm, 142, rfl⟩
abbrev main_call6_v5 : Ref sig .tc := ⟨.hbm, 143, rfl⟩
abbrev main_call6_cst_2 : Ref sig .tc := ⟨.hbm, 144, rfl⟩
abbrev main_call6_v6 : Ref sig .tc := ⟨.hbm, 145, rfl⟩
abbrev main_call6_v7 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_call7_cst : Ref sig .tc := ⟨.hbm, 152, rfl⟩
abbrev main_call7_v0 : Ref sig .tc := ⟨.hbm, 153, rfl⟩
abbrev main_call7_v1 : Ref sig .tc := ⟨.hbm, 154, rfl⟩
abbrev main_call7_cst_0 : Ref sig .tc := ⟨.hbm, 155, rfl⟩
abbrev main_call7_v2 : Ref sig .tc := ⟨.hbm, 156, rfl⟩
abbrev main_call7_v3 : Ref sig .tc := ⟨.hbm, 157, rfl⟩
abbrev main_call7_cst_1 : Ref sig .tc := ⟨.hbm, 158, rfl⟩
abbrev main_call7_call0_v0 : Ref sig .tc := ⟨.hbm, 159, rfl⟩
abbrev main_call7_call0_v1 : Ref sig .tc := ⟨.hbm, 160, rfl⟩
abbrev main_call7_v4 : Ref sig .tc := ⟨.hbm, 161, rfl⟩
abbrev main_call7_v5 : Ref sig .tc := ⟨.hbm, 162, rfl⟩
abbrev main_call7_cst_2 : Ref sig .tc := ⟨.hbm, 163, rfl⟩
abbrev main_call7_v6 : Ref sig .tc := ⟨.hbm, 164, rfl⟩
abbrev main_call7_v7 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_call8_cst : Ref sig .tc := ⟨.hbm, 169, rfl⟩
abbrev main_call8_v0 : Ref sig .tc := ⟨.hbm, 170, rfl⟩
abbrev main_call8_v1 : Ref sig .tc := ⟨.hbm, 171, rfl⟩
abbrev main_call8_cst_0 : Ref sig .tc := ⟨.hbm, 172, rfl⟩
abbrev main_call8_v2 : Ref sig .tc := ⟨.hbm, 173, rfl⟩
abbrev main_call8_v3 : Ref sig .tc := ⟨.hbm, 174, rfl⟩
abbrev main_call8_cst_1 : Ref sig .tc := ⟨.hbm, 175, rfl⟩
abbrev main_call8_call0_v0 : Ref sig .tc := ⟨.hbm, 176, rfl⟩
abbrev main_call8_call0_v1 : Ref sig .tc := ⟨.hbm, 177, rfl⟩
abbrev main_call8_v4 : Ref sig .tc := ⟨.hbm, 178, rfl⟩
abbrev main_call8_v5 : Ref sig .tc := ⟨.hbm, 179, rfl⟩
abbrev main_call8_cst_2 : Ref sig .tc := ⟨.hbm, 180, rfl⟩
abbrev main_call8_v6 : Ref sig .tc := ⟨.hbm, 181, rfl⟩
abbrev main_call8_v7 : Ref sig .tc := ⟨.hbm, 182, rfl⟩
abbrev main_v44 : Ref sig .tc := ⟨.hbm, 183, rfl⟩
abbrev main_v45 : Ref sig .tc := ⟨.hbm, 184, rfl⟩
abbrev main_v46 : Ref sig .tc := ⟨.hbm, 185, rfl⟩
abbrev main_call9_cst : Ref sig .tc := ⟨.hbm, 186, rfl⟩
abbrev main_call9_v0 : Ref sig .tc := ⟨.hbm, 187, rfl⟩
abbrev main_call9_v1 : Ref sig .tc := ⟨.hbm, 188, rfl⟩
abbrev main_call9_cst_0 : Ref sig .tc := ⟨.hbm, 189, rfl⟩
abbrev main_call9_v2 : Ref sig .tc := ⟨.hbm, 190, rfl⟩
abbrev main_call9_v3 : Ref sig .tc := ⟨.hbm, 191, rfl⟩
abbrev main_call9_cst_1 : Ref sig .tc := ⟨.hbm, 192, rfl⟩
abbrev main_call9_call0_v0 : Ref sig .tc := ⟨.hbm, 193, rfl⟩
abbrev main_call9_call0_v1 : Ref sig .tc := ⟨.hbm, 194, rfl⟩
abbrev main_call9_v4 : Ref sig .tc := ⟨.hbm, 195, rfl⟩
abbrev main_call9_v5 : Ref sig .tc := ⟨.hbm, 196, rfl⟩
abbrev main_call9_cst_2 : Ref sig .tc := ⟨.hbm, 197, rfl⟩
abbrev main_call9_v6 : Ref sig .tc := ⟨.hbm, 198, rfl⟩
abbrev main_call9_v7 : Ref sig .tc := ⟨.hbm, 199, rfl⟩
abbrev main_v47 : Ref sig .tc := ⟨.hbm, 200, rfl⟩
abbrev main_v48 : Ref sig .tc := ⟨.hbm, 201, rfl⟩
abbrev main_cst_5 : Ref sig .tc := ⟨.hbm, 202, rfl⟩
abbrev main_v49 : Ref sig .tc := ⟨.hbm, 203, rfl⟩
abbrev main_v50 : Ref sig .tc := ⟨.hbm, 204, rfl⟩
abbrev main_v51 : Ref sig .tc := ⟨.hbm, 205, rfl⟩
abbrev main_v52 : Ref sig .tc := ⟨.hbm, 206, rfl⟩
abbrev main_v53 : Ref sig .tc := ⟨.hbm, 207, rfl⟩
abbrev main_v54 : Ref sig .tc := ⟨.hbm, 208, rfl⟩
abbrev main_v55 : Ref sig .tc := ⟨.hbm, 209, rfl⟩
abbrev main_call10_cst : Ref sig .tc := ⟨.hbm, 210, rfl⟩
abbrev main_call10_v0 : Ref sig .tc := ⟨.hbm, 211, rfl⟩
abbrev main_v56 : Ref sig .tc := ⟨.hbm, 212, rfl⟩
abbrev main_v57 : Ref sig .tc := ⟨.hbm, 213, rfl⟩
abbrev main_v58 : Ref sig .tc := ⟨.hbm, 214, rfl⟩
abbrev main_v59 : Ref sig .tc := ⟨.hbm, 215, rfl⟩
abbrev main_v60 : Ref sig .tc := ⟨.hbm, 216, rfl⟩
abbrev main_v61 : Ref sig .tc := ⟨.hbm, 217, rfl⟩
abbrev main_v62 : Ref sig .tc := ⟨.hbm, 218, rfl⟩
abbrev main_v63 : Ref sig .tc := ⟨.hbm, 219, rfl⟩
abbrev main_v64 : Ref sig .tc := ⟨.hbm, 220, rfl⟩
abbrev main_v65 : Ref sig .tc := ⟨.hbm, 221, rfl⟩
abbrev main_v66 : Ref sig .tc := ⟨.hbm, 222, rfl⟩
abbrev main_call11_cst : Ref sig .tc := ⟨.hbm, 223, rfl⟩
abbrev main_call11_v0 : Ref sig .tc := ⟨.hbm, 224, rfl⟩
abbrev main_v67 : Ref sig .tc := ⟨.hbm, 225, rfl⟩
abbrev main_v68 : Ref sig .tc := ⟨.hbm, 226, rfl⟩
abbrev main_v69 : Ref sig .tc := ⟨.hbm, 227, rfl⟩
abbrev main_v70 : Ref sig .tc := ⟨.hbm, 228, rfl⟩
abbrev main_v71 : Ref sig .tc := ⟨.hbm, 229, rfl⟩
abbrev main_v72 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_v76 : Ref sig .tc := ⟨.hbm, 234, rfl⟩
abbrev main_v77 : Ref sig .tc := ⟨.hbm, 235, rfl⟩
abbrev main_call12_cst : Ref sig .tc := ⟨.hbm, 236, rfl⟩
abbrev main_call12_v0 : Ref sig .tc := ⟨.hbm, 237, rfl⟩
abbrev main_v78 : Ref sig .tc := ⟨.hbm, 238, rfl⟩
abbrev main_v79 : Ref sig .tc := ⟨.hbm, 239, rfl⟩
abbrev main_v80 : Ref sig .tc := ⟨.hbm, 240, rfl⟩
abbrev main_v81 : Ref sig .tc := ⟨.hbm, 241, rfl⟩
abbrev main_v82 : Ref sig .tc := ⟨.hbm, 242, rfl⟩
abbrev main_v83 : Ref sig .tc := ⟨.hbm, 243, rfl⟩
abbrev main_v84 : Ref sig .tc := ⟨.hbm, 244, rfl⟩
abbrev main_v85 : Ref sig .tc := ⟨.hbm, 245, rfl⟩
abbrev main_v86 : Ref sig .tc := ⟨.hbm, 246, rfl⟩
abbrev main_v87 : Ref sig .tc := ⟨.hbm, 247, rfl⟩
abbrev main_v88 : Ref sig .tc := ⟨.hbm, 248, rfl⟩
abbrev main_call13_cst : Ref sig .tc := ⟨.hbm, 249, rfl⟩
abbrev main_call13_v0 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_v98 : Ref sig .tc := ⟨.hbm, 260, rfl⟩
abbrev main_v99 : Ref sig .tc := ⟨.hbm, 261, rfl⟩
abbrev main_call14_cst : Ref sig .tc := ⟨.hbm, 262, rfl⟩
abbrev main_call14_v0 : Ref sig .tc := ⟨.hbm, 263, rfl⟩
abbrev main_v100 : Ref sig .tc := ⟨.hbm, 264, rfl⟩
abbrev main_v101 : Ref sig .tc := ⟨.hbm, 265, rfl⟩
abbrev main_v102 : Ref sig .tc := ⟨.hbm, 266, rfl⟩
abbrev main_v103 : Ref sig .tc := ⟨.hbm, 267, rfl⟩
abbrev main_v104 : Ref sig .tc := ⟨.hbm, 268, rfl⟩
abbrev main_v105 : Ref sig .tc := ⟨.hbm, 269, rfl⟩
abbrev main_call15_v0 : Ref sig .tc := ⟨.hbm, 270, rfl⟩
abbrev main_call15_cst : Ref sig .tc := ⟨.hbm, 271, rfl⟩
abbrev main_call15_v1 : Ref sig .tc := ⟨.hbm, 272, rfl⟩
abbrev main_call15_v2 : Ref sig .tc := ⟨.hbm, 273, rfl⟩
abbrev main_v106 : Ref sig .tc := ⟨.hbm, 274, rfl⟩
abbrev main_cst_6 : Ref sig .tc := ⟨.hbm, 275, rfl⟩
abbrev main_call16_v0 : Ref sig .tc := ⟨.hbm, 276, rfl⟩
abbrev main_call16_v1 : Ref sig .tc := ⟨.hbm, 277, rfl⟩
abbrev main_v107 : Ref sig .tc := ⟨.hbm, 278, rfl⟩
abbrev main_v108 : Ref sig .tc := ⟨.hbm, 279, rfl⟩
abbrev main_v109 : Ref sig .tc := ⟨.hbm, 280, rfl⟩
abbrev main_call17_v0 : Ref sig .tc := ⟨.hbm, 281, rfl⟩
abbrev main_call17_cst : Ref sig .tc := ⟨.hbm, 282, rfl⟩
abbrev main_call17_v1 : Ref sig .tc := ⟨.hbm, 283, rfl⟩
abbrev main_call17_v2 : Ref sig .tc := ⟨.hbm, 284, rfl⟩
abbrev main_v110 : Ref sig .tc := ⟨.hbm, 285, rfl⟩
abbrev main_cst_7 : Ref sig .tc := ⟨.hbm, 286, rfl⟩
abbrev main_call18_v0 : Ref sig .tc := ⟨.hbm, 287, rfl⟩
abbrev main_call18_v1 : Ref sig .tc := ⟨.hbm, 288, rfl⟩
abbrev main_v111 : Ref sig .tc := ⟨.hbm, 289, rfl⟩
abbrev main_v112 : Ref sig .tc := ⟨.hbm, 290, rfl⟩
abbrev main_v113 : Ref sig .tc := ⟨.hbm, 291, rfl⟩
abbrev main_call19_v0 : Ref sig .tc := ⟨.hbm, 292, rfl⟩
abbrev main_call19_cst : Ref sig .tc := ⟨.hbm, 293, rfl⟩
abbrev main_call19_v1 : Ref sig .tc := ⟨.hbm, 294, rfl⟩
abbrev main_call19_v2 : Ref sig .tc := ⟨.hbm, 295, rfl⟩
abbrev main_v114 : Ref sig .tc := ⟨.hbm, 296, rfl⟩
abbrev main_cst_8 : Ref sig .tc := ⟨.hbm, 297, rfl⟩
abbrev main_call20_v0 : Ref sig .tc := ⟨.hbm, 298, rfl⟩
abbrev main_call20_v1 : Ref sig .tc := ⟨.hbm, 299, rfl⟩
abbrev main_v115 : Ref sig .tc := ⟨.hbm, 300, rfl⟩
abbrev main_v116 : Ref sig .tc := ⟨.hbm, 301, rfl⟩
abbrev main_v117 : Ref sig .tc := ⟨.hbm, 302, rfl⟩
abbrev main_call21_v0 : Ref sig .tc := ⟨.hbm, 303, rfl⟩
abbrev main_call21_cst : Ref sig .tc := ⟨.hbm, 304, rfl⟩
abbrev main_call21_v1 : Ref sig .tc := ⟨.hbm, 305, rfl⟩
abbrev main_call21_v2 : Ref sig .tc := ⟨.hbm, 306, rfl⟩
abbrev main_v118 : Ref sig .tc := ⟨.hbm, 307, rfl⟩
abbrev main_cst_9 : Ref sig .tc := ⟨.hbm, 308, rfl⟩
abbrev main_call22_v0 : Ref sig .tc := ⟨.hbm, 309, rfl⟩
abbrev main_call22_v1 : Ref sig .tc := ⟨.hbm, 310, rfl⟩
abbrev main_v119 : Ref sig .tc := ⟨.hbm, 311, rfl⟩
abbrev main_v120 : Ref sig .tc := ⟨.hbm, 312, rfl⟩
abbrev main_v121 : Ref sig .tc := ⟨.hbm, 313, rfl⟩
abbrev main_v122 : Ref sig .tc := ⟨.hbm, 314, rfl⟩
abbrev main_v123 : Ref sig .tc := ⟨.hbm, 315, rfl⟩
abbrev main_v124 : Ref sig .tc := ⟨.hbm, 316, rfl⟩
abbrev main_v125 : Ref sig .tc := ⟨.hbm, 317, rfl⟩
abbrev main_v126 : Ref sig .tc := ⟨.hbm, 318, rfl⟩
abbrev main_v127 : Ref sig .tc := ⟨.hbm, 319, rfl⟩
abbrev main_cst_10 : Ref sig .tc := ⟨.hbm, 320, rfl⟩
abbrev main_v128 : Ref sig .tc := ⟨.hbm, 321, rfl⟩
abbrev main_cst_11 : Ref sig .tc := ⟨.hbm, 322, rfl⟩
abbrev main_v129 : Ref sig .tc := ⟨.hbm, 323, rfl⟩
abbrev main_v130 : Ref sig .tc := ⟨.hbm, 324, rfl⟩
abbrev main_v131 : Ref sig .tc := ⟨.hbm, 325, rfl⟩
abbrev main_v132 : Ref sig .tc := ⟨.hbm, 326, rfl⟩
abbrev main_v133 : Ref sig .tc := ⟨.hbm, 327, rfl⟩
abbrev main_v134 : Ref sig .tc := ⟨.hbm, 328, rfl⟩
abbrev main_v135 : Ref sig .tc := ⟨.hbm, 329, rfl⟩
abbrev main_cst_12 : Ref sig .tc := ⟨.hbm, 330, rfl⟩
abbrev main_v136 : Ref sig .tc := ⟨.hbm, 331, rfl⟩
abbrev main_cst_13 : Ref sig .tc := ⟨.hbm, 332, rfl⟩
abbrev main_v137 : Ref sig .tc := ⟨.hbm, 333, rfl⟩
abbrev main_v138 : Ref sig .tc := ⟨.hbm, 334, rfl⟩
abbrev main_v139 : Ref sig .tc := ⟨.hbm, 335, rfl⟩
abbrev main_v140 : Ref sig .tc := ⟨.hbm, 336, rfl⟩
abbrev main_v141 : Ref sig .tc := ⟨.hbm, 337, rfl⟩
abbrev main_v142 : Ref sig .tc := ⟨.hbm, 338, rfl⟩
abbrev main_v143 : Ref sig .tc := ⟨.hbm, 339, rfl⟩
abbrev main_cst_14 : Ref sig .tc := ⟨.hbm, 340, rfl⟩
abbrev main_v144 : Ref sig .tc := ⟨.hbm, 341, rfl⟩
abbrev main_cst_15 : Ref sig .tc := ⟨.hbm, 342, rfl⟩
abbrev main_v145 : Ref sig .tc := ⟨.hbm, 343, rfl⟩
abbrev main_v146 : Ref sig .tc := ⟨.hbm, 344, rfl⟩
abbrev main_v147 : Ref sig .tc := ⟨.hbm, 345, rfl⟩
abbrev main_v148 : Ref sig .tc := ⟨.hbm, 346, rfl⟩
abbrev main_v149 : Ref sig .tc := ⟨.hbm, 347, rfl⟩
abbrev main_v150 : Ref sig .tc := ⟨.hbm, 348, rfl⟩
abbrev main_v151 : Ref sig .tc := ⟨.hbm, 349, rfl⟩
abbrev main_cst_16 : Ref sig .tc := ⟨.hbm, 350, rfl⟩
abbrev main_v152 : Ref sig .tc := ⟨.hbm, 351, rfl⟩
abbrev main_cst_17 : Ref sig .tc := ⟨.hbm, 352, rfl⟩
abbrev main_v153 : Ref sig .tc := ⟨.hbm, 353, rfl⟩
abbrev main_v154 : Ref sig .tc := ⟨.hbm, 354, rfl⟩
abbrev main_v155 : Ref sig .tc := ⟨.hbm, 355, rfl⟩
abbrev main_v156 : Ref sig .tc := ⟨.hbm, 356, rfl⟩
abbrev main_v157 : Ref sig .tc := ⟨.hbm, 357, rfl⟩
abbrev main_v158 : Ref sig .tc := ⟨.hbm, 358, rfl⟩
abbrev main_cst_18 : Ref sig .tc := ⟨.hbm, 359, rfl⟩
abbrev main_v159 : Ref sig .tc := ⟨.hbm, 360, rfl⟩
abbrev main_cst_19 : Ref sig .tc := ⟨.hbm, 361, rfl⟩
abbrev main_v160 : Ref sig .tc := ⟨.hbm, 362, rfl⟩
abbrev main_v161 : Ref sig .tc := ⟨.hbm, 363, rfl⟩
abbrev main_v162 : Ref sig .tc := ⟨.hbm, 364, rfl⟩
abbrev main_v163 : Ref sig .tc := ⟨.hbm, 365, rfl⟩
abbrev main_v164 : Ref sig .tc := ⟨.hbm, 366, rfl⟩
abbrev main_cst_20 : Ref sig .tc := ⟨.hbm, 367, rfl⟩
abbrev main_v165 : Ref sig .tc := ⟨.hbm, 368, rfl⟩
abbrev main_v166 : Ref sig .tc := ⟨.hbm, 369, rfl⟩
abbrev main_v167 : Ref sig .tc := ⟨.hbm, 370, rfl⟩
abbrev main_v168 : Ref sig .tc := ⟨.hbm, 371, rfl⟩
abbrev main_v169 : Ref sig .tc := ⟨.hbm, 372, rfl⟩
abbrev main_v170 : Ref sig .tc := ⟨.hbm, 373, rfl⟩
abbrev main_v171 : Ref sig .tc := ⟨.hbm, 374, rfl⟩
abbrev main_v172 : Ref sig .tc := ⟨.hbm, 375, rfl⟩
abbrev main_cst_21 : Ref sig .tc := ⟨.hbm, 376, rfl⟩
abbrev main_v173 : Ref sig .tc := ⟨.hbm, 377, rfl⟩
abbrev main_v174 : Ref sig .tc := ⟨.hbm, 378, rfl⟩
abbrev main_v175 : Ref sig .tc := ⟨.hbm, 379, rfl⟩
abbrev main_v176 : Ref sig .tc := ⟨.hbm, 380, rfl⟩
abbrev main_v177 : Ref sig .tc := ⟨.hbm, 381, rfl⟩
abbrev main_v178 : Ref sig .tc := ⟨.hbm, 382, rfl⟩
abbrev main_v179 : Ref sig .tc := ⟨.hbm, 383, rfl⟩
abbrev main_v180 : Ref sig .tc := ⟨.hbm, 384, rfl⟩
abbrev main_v181 : Ref sig .tc := ⟨.hbm, 385, rfl⟩
abbrev main_v182 : Ref sig .tc := ⟨.hbm, 386, rfl⟩
abbrev main_v183 : Ref sig .tc := ⟨.hbm, 387, rfl⟩
abbrev main_v184 : Ref sig .tc := ⟨.hbm, 388, rfl⟩
abbrev main_v185 : Ref sig .tc := ⟨.hbm, 389, rfl⟩
abbrev main_v186 : Ref sig .tc := ⟨.hbm, 390, rfl⟩
abbrev main_v187 : Ref sig .tc := ⟨.hbm, 391, rfl⟩
abbrev main_v188 : Ref sig .tc := ⟨.hbm, 392, rfl⟩
abbrev main_v189 : Ref sig .tc := ⟨.hbm, 393, rfl⟩
abbrev main_v190 : Ref sig .tc := ⟨.hbm, 394, rfl⟩
abbrev main_v191 : Ref sig .tc := ⟨.hbm, 395, rfl⟩
abbrev main_v192 : Ref sig .tc := ⟨.hbm, 396, rfl⟩
abbrev main_v193 : Ref sig .tc := ⟨.hbm, 397, rfl⟩
abbrev main_v194 : Ref sig .tc := ⟨.hbm, 398, rfl⟩
abbrev main_call23_v0 : Ref sig .tc := ⟨.hbm, 399, rfl⟩
abbrev main_call23_cst : Ref sig .tc := ⟨.hbm, 400, rfl⟩
abbrev main_call23_v1 : Ref sig .tc := ⟨.hbm, 401, rfl⟩
abbrev main_call23_v2 : Ref sig .tc := ⟨.hbm, 402, rfl⟩
abbrev main_v195 : Ref sig .tc := ⟨.hbm, 403, rfl⟩
abbrev main_cst_22 : Ref sig .tc := ⟨.hbm, 404, rfl⟩
abbrev main_call24_v0 : Ref sig .tc := ⟨.hbm, 405, rfl⟩
abbrev main_call24_v1 : Ref sig .tc := ⟨.hbm, 406, rfl⟩
abbrev main_v196 : Ref sig .tc := ⟨.hbm, 407, rfl⟩
abbrev main_v197 : Ref sig .tc := ⟨.hbm, 408, rfl⟩
abbrev main_v198 : Ref sig .tc := ⟨.hbm, 409, rfl⟩
abbrev main_v199 : Ref sig .tc := ⟨.hbm, 410, rfl⟩
abbrev main_v200 : Ref sig .tc := ⟨.hbm, 411, rfl⟩
abbrev main_v201 : Ref sig .tc := ⟨.hbm, 412, rfl⟩
abbrev main_v202 : Ref sig .tc := ⟨.hbm, 413, rfl⟩
abbrev main_v203 : Ref sig .tc := ⟨.hbm, 414, rfl⟩
abbrev main_call25_v0 : Ref sig .tc := ⟨.hbm, 415, rfl⟩
abbrev main_call25_cst : Ref sig .tc := ⟨.hbm, 416, rfl⟩
abbrev main_call25_v1 : Ref sig .tc := ⟨.hbm, 417, rfl⟩
abbrev main_call25_v2 : Ref sig .tc := ⟨.hbm, 418, rfl⟩
abbrev main_v204 : Ref sig .tc := ⟨.hbm, 419, rfl⟩
abbrev main_cst_23 : Ref sig .tc := ⟨.hbm, 420, rfl⟩
abbrev main_call26_v0 : Ref sig .tc := ⟨.hbm, 421, rfl⟩
abbrev main_call26_v1 : Ref sig .tc := ⟨.hbm, 422, rfl⟩
abbrev main_v205 : Ref sig .tc := ⟨.hbm, 423, rfl⟩
abbrev main_v206 : Ref sig .tc := ⟨.hbm, 424, rfl⟩
abbrev main_v207 : Ref sig .tc := ⟨.hbm, 425, rfl⟩
abbrev main_v208 : Ref sig .tc := ⟨.hbm, 426, rfl⟩
abbrev main_v209 : Ref sig .tc := ⟨.hbm, 427, rfl⟩
abbrev main_cst_24 : Ref sig .tc := ⟨.hbm, 428, rfl⟩
abbrev main_v210 : Ref sig .tc := ⟨.hbm, 429, rfl⟩
abbrev main_v211 : Ref sig .tc := ⟨.hbm, 430, rfl⟩
abbrev main_v212 : Ref sig .tc := ⟨.hbm, 431, rfl⟩
abbrev main_v213 : Ref sig .tc := ⟨.hbm, 432, rfl⟩
abbrev main_v214 : Ref sig .tc := ⟨.hbm, 433, rfl⟩
abbrev main_c : Ref sig .tc := ⟨.hbm, 434, rfl⟩
abbrev main_v215 : Ref sig .tc := ⟨.hbm, 435, rfl⟩
abbrev main_v216 : Ref sig .tc := ⟨.hbm, 436, rfl⟩
abbrev main_c_25 : Ref sig .tc := ⟨.hbm, 437, rfl⟩
abbrev main_v217 : Ref sig .tc := ⟨.hbm, 438, rfl⟩
abbrev main_v218 : Ref sig .tc := ⟨.hbm, 439, rfl⟩
abbrev main_v219 : Ref sig .tc := ⟨.hbm, 440, rfl⟩
abbrev main_c_26 : Ref sig .tc := ⟨.hbm, 441, rfl⟩
abbrev main_v220 : Ref sig .tc := ⟨.hbm, 442, rfl⟩
abbrev main_v221 : Ref sig .tc := ⟨.hbm, 443, rfl⟩
abbrev main_c_27 : Ref sig .tc := ⟨.hbm, 444, rfl⟩
abbrev main_v222 : Ref sig .tc := ⟨.hbm, 445, rfl⟩
abbrev main_v223 : Ref sig .tc := ⟨.hbm, 446, rfl⟩
abbrev main_v224 : Ref sig .tc := ⟨.hbm, 447, rfl⟩
abbrev main_v225 : Ref sig .tc := ⟨.hbm, 448, rfl⟩
abbrev main_v226 : Ref sig .tc := ⟨.hbm, 449, rfl⟩
abbrev main_v227 : Ref sig .tc := ⟨.hbm, 450, rfl⟩
abbrev main_v228 : Ref sig .tc := ⟨.hbm, 451, rfl⟩
abbrev main_v229 : Ref sig .tc := ⟨.hbm, 452, rfl⟩
abbrev main_v230 : Ref sig .tc := ⟨.hbm, 453, rfl⟩
abbrev main_v231 : Ref sig .tc := ⟨.hbm, 454, rfl⟩
abbrev main_v232 : Ref sig .tc := ⟨.hbm, 455, rfl⟩
abbrev main_v233 : Ref sig .tc := ⟨.hbm, 456, rfl⟩
abbrev main_v234 : Ref sig .tc := ⟨.hbm, 457, rfl⟩
abbrev main_v235 : Ref sig .tc := ⟨.hbm, 458, rfl⟩
abbrev main_v236 : Ref sig .tc := ⟨.hbm, 459, rfl⟩
abbrev main_v237 : Ref sig .tc := ⟨.hbm, 460, rfl⟩
abbrev main_v238 : Ref sig .tc := ⟨.hbm, 461, rfl⟩
abbrev main_v239 : Ref sig .tc := ⟨.hbm, 462, rfl⟩
abbrev main_v240 : Ref sig .tc := ⟨.hbm, 463, rfl⟩
abbrev main_v241 : Ref sig .tc := ⟨.hbm, 464, rfl⟩
abbrev main_v242 : Ref sig .tc := ⟨.hbm, 465, rfl⟩
abbrev main_v243 : Ref sig .tc := ⟨.hbm, 466, rfl⟩
abbrev main_v244 : Ref sig .tc := ⟨.hbm, 467, rfl⟩
abbrev main_v245 : Ref sig .tc := ⟨.hbm, 468, rfl⟩
abbrev main_v246 : Ref sig .tc := ⟨.hbm, 469, rfl⟩
abbrev main_v247 : Ref sig .tc := ⟨.hbm, 470, rfl⟩
abbrev main_v248 : Ref sig .tc := ⟨.hbm, 471, rfl⟩
abbrev main_cst_28 : Ref sig .tc := ⟨.hbm, 472, rfl⟩
abbrev main_v249 : Ref sig .tc := ⟨.hbm, 473, rfl⟩
abbrev main_v250 : Ref sig .tc := ⟨.hbm, 474, rfl⟩
abbrev main_cst_29 : Ref sig .tc := ⟨.hbm, 475, rfl⟩
abbrev main_v251 : Ref sig .tc := ⟨.hbm, 476, rfl⟩
abbrev main_v252 : Ref sig .tc := ⟨.hbm, 477, rfl⟩
abbrev main_v253 : Ref sig .tc := ⟨.hbm, 478, rfl⟩
abbrev main_v254 : Ref sig .tc := ⟨.hbm, 479, rfl⟩
abbrev main_cst_30 : Ref sig .tc := ⟨.hbm, 480, rfl⟩
abbrev main_v255 : Ref sig .tc := ⟨.hbm, 481, rfl⟩
abbrev main_v256 : Ref sig .tc := ⟨.hbm, 482, rfl⟩
abbrev main_v257 : Ref sig .tc := ⟨.hbm, 483, rfl⟩
abbrev main_v258 : Ref sig .tc := ⟨.hbm, 484, rfl⟩
abbrev main_cst_31 : Ref sig .tc := ⟨.hbm, 485, rfl⟩
abbrev main_v259 : Ref sig .tc := ⟨.hbm, 486, rfl⟩
abbrev main_cst_32 : Ref sig .tc := ⟨.hbm, 487, rfl⟩
abbrev main_v260 : Ref sig .tc := ⟨.hbm, 488, rfl⟩

abbrev nD : Nat := 1
abbrev τ : Topo := Topo.v7x

variable {F : FTy → Type} [FloatOps F]
-- ==== Proof.Spec.lean ====
/- The mathematics both programs compute, on matrices of extended reals given by their entries: each stage of the
   network is one function here, and the kernel's and the reference's modules show that their buffers hold it. -/
module

public import Idealize.ShloMosaic.PureOps.Ideal
public import Idealize.ShloMosaic.PureOps.Ideal.Laws

@[expose] public section

noncomputable section

namespace Cert.Spec

open Idealize.ShloMosaic

/-- A matrix by its entries. -/
abbrev Mat (n m : ℕ) := Fin n → Fin m → EReal

/-- The floor under a row's norm, the float nearest to `1e-12`. -/
abbrev tiny : EReal := Ideal.ofBits .f32 0x2B8CBCCC#32
/-- The number of rows, `1024`. -/
abbrev rows : EReal := Ideal.ofBits .f32 0x44800000#32
/-- One half. -/
abbrev half : EReal := Ideal.ofBits .f32 0x3F000000#32

/-- The product of two matrices. -/
def mm {n k m : ℕ} (a : Mat n k) (b : Mat k m) : Mat n m := fun i j => ∑ t, a i t * b t j

/-- The exponential linear unit. -/
def elu (x : EReal) : EReal := if 0 < x then x else Ideal.exp x - 1

/-- A linear layer followed by `elu`. -/
def lin {n k m : ℕ} (a : Mat n k) (w : Mat k m) (b : Fin m → EReal) : Mat n m := fun i j => elu (mm a w i j + b j)

/-- A row's neighbour count, one where it is not positive. -/
def cnt {n k : ℕ} (a : Mat n k) (i : Fin n) : EReal := if 0 < ∑ t, a i t then ∑ t, a i t else 1

/-- The mean over a row's neighbours. -/
def agg {n k m : ℕ} (a : Mat n k) (h : Mat k m) : Mat n m := fun i j => Ideal.div (mm a h i j) (cnt a i)

/-- A view: a row's own features plus its neighbours' through a weight matrix, then `elu`. -/
def view {n k m : ℕ} (h : Mat n m) (a : Mat n k) (w : Mat k m) : Mat n m := fun i j => elu (h i j + mm a w i j)

/-- A graph convolution of two layers. -/
def gcn {n f d e : ℕ} (adj : Mat n n) (x : Mat n f) (w1 : Mat f d) (b1 : Fin d → EReal) (w2 : Mat d e) (b2 : Fin e → EReal) : Mat n e :=
  fun i j => mm adj (mm (fun p q => max (mm adj (mm x w1) p q + b1 q) 0) w2) i j + b2 j

/-- The mean of two adjacency matrices. -/
def adjMean {n : ℕ} (a b : Mat n n) : Mat n n := fun i j => half * (a i j + b i j)

/-- Each row divided by its Euclidean norm, the norm held above `tiny`. -/
def normalize {n d : ℕ} (z : Mat n d) : Mat n d := fun i j => Ideal.div (z i j) (max (Ideal.sqrt (∑ t, z i t * z i t)) tiny)

/-- A view's attention score: the mean over its rows. -/
def score {n d e : ℕ} (h : Mat n d) (w : Mat d e) (b a : Fin e → EReal) : EReal :=
  Ideal.div (∑ i, ∑ k, Ideal.tanh (mm h w i k + b k) * a k) rows

/-- The softmax of the four scores. -/
def softmax (s : Fin 4 → EReal) (k : Fin 4) : EReal :=
  Ideal.div (Ideal.exp (s k - Finset.univ.fold max ⊥ s)) (∑ l, Ideal.exp (s l - Finset.univ.fold max ⊥ s))

/-- The four views weighed together. -/
def blend {n d : ℕ} (β : Fin 4 → EReal) (h0 h1 h2 h3 : Mat n d) : Mat n d :=
  fun i j => β 0 * h0 i j + β 1 * h1 i j + β 2 * h2 i j + β 3 * h3 i j

/-- The projection: a linear layer, `tanh`, rows normalized. -/
def proj {n d e : ℕ} (z : Mat n d) (w : Mat d e) (b : Fin e → EReal) : Mat n e :=
  normalize fun i j => Ideal.tanh (mm z w i j + b j)

/-- Twice the inner product of a row of each: the logit at temperature one half. -/
def logit {n d : ℕ} (zf zc : Mat n d) (i j : Fin n) : EReal := (∑ t, zf i t * zc j t) * ((2 : ℝ) : EReal)

/-- A pair's weight from the two halves of its hidden layer. -/
def weight {n e : ℕ} (a b : Mat n e) (w : Fin e → EReal) (c : EReal) (i j : Fin n) : EReal :=
  Ideal.logistic ((∑ k, Ideal.tanh (a i k + b j k) * w k) + c)

/-- The weighted sum of a row's exponentials. -/
def denom {n d e : ℕ} (zf zc : Mat n d) (a b : Mat n e) (w : Fin e → EReal) (c : EReal) (i : Fin n) : EReal :=
  ∑ j, Ideal.exp (logit zf zc i j) * weight a b w c i j

/-- The loss: the mean over rows of the logarithm of the weighted sum less the row's own logit. -/
def loss {n d e : ℕ} (zf zc : Mat n d) (a b : Mat n e) (w : Fin e → EReal) (c : EReal) : EReal :=
  Ideal.div (∑ i, (Ideal.log (denom zf zc a b w c i) - logit zf zc i i)) rows

/-- The network up to the two projections, from the arguments by their entries: the four views' features, -/
structure Args where
  feat0 : Mat 1024 1902
  feat1 : Mat 4096 334
  feat2 : Mat 60 64
  maskFeat : Mat 1024 1902
  adj0 : Mat 1024 1024
  adj1 : Mat 1024 1024
  maskAdj0 : Mat 1024 1024
  maskAdj1 : Mat 1024 1024
  nei0 : Mat 1024 4096
  nei1 : Mat 1024 60
  wfc0 : Mat 1902 256
  bfc0 : Fin 256 → EReal
  wfc1 : Mat 334 256
  bfc1 : Fin 256 → EReal
  wfc2 : Mat 64 256
  bfc2 : Fin 256 → EReal
  wagg0 : Mat 256 256
  wagg1 : Mat 256 256
  wg1 : Mat 256 64
  bg1 : Fin 64 → EReal
  wg2 : Mat 64 64
  bg2 : Fin 64 → EReal
  watt : Mat 64 64
  batt : Fin 64 → EReal
  aatt : Fin 64 → EReal
  wproj : Mat 64 64
  bproj : Fin 64 → EReal
  wm1 : Mat 64 16
  bm1 : Fin 16 → EReal
  wm2 : Fin 16 → EReal
  bm2 : EReal

namespace Args

variable (A : Args)

/-- The targets' features. -/
def tar : Mat 1024 256 := lin A.feat0 A.wfc0 A.bfc0
/-- The masked targets' features. -/
def mask : Mat 1024 256 := lin A.maskFeat A.wfc0 A.bfc0
/-- The first neighbours' features. -/
def near0 : Mat 4096 256 := lin A.feat1 A.wfc1 A.bfc1
/-- The second neighbours' features. -/
def near1 : Mat 60 256 := lin A.feat2 A.wfc2 A.bfc2
/-- The mean over the first neighbours. -/
def agg0 : Mat 1024 256 := agg A.nei0 A.near0
/-- The mean over the second neighbours. -/
def agg1 : Mat 1024 256 := agg A.nei1 A.near1
/-- The first view. -/
def view0 : Mat 1024 256 := view A.tar A.agg0 A.wagg0
/-- The second view. -/
def view1 : Mat 1024 256 := view A.tar A.agg1 A.wagg1
/-- The first masked view. -/
def mask0 : Mat 1024 256 := view A.mask A.agg0 A.wagg0
/-- The second masked view. -/
def mask1 : Mat 1024 256 := view A.mask A.agg1 A.wagg1
/-- A convolution with the network's weights. -/
def conv (adj : Mat 1024 1024) (x : Mat 1024 256) : Mat 1024 64 := gcn adj x A.wg1 A.bg1 A.wg2 A.bg2
/-- The coarse features. -/
def coarse : Mat 1024 64 := A.conv (adjMean A.adj0 A.adj1) A.tar
/-- The four fine features. -/
def fine0 : Mat 1024 64 := normalize (A.conv A.adj0 A.view0)
def fine1 : Mat 1024 64 := normalize (A.conv A.maskAdj0 A.mask0)
def fine2 : Mat 1024 64 := normalize (A.conv A.adj1 A.view1)
def fine3 : Mat 1024 64 := normalize (A.conv A.maskAdj1 A.mask1)
/-- A view's score. -/
def sc (h : Mat 1024 64) : EReal := score h A.watt A.batt A.aatt
/-- The four scores. -/
def scores : Fin 4 → EReal := ![A.sc A.fine0, A.sc A.fine1, A.sc A.fine2, A.sc A.fine3]
/-- The weights of the four views. -/
def beta : Fin 4 → EReal := softmax A.scores
/-- The views weighed together. -/
def fine : Mat 1024 64 := blend A.beta A.fine0 A.fine1 A.fine2 A.fine3
/-- The fine projection. -/
def zf : Mat 1024 64 := proj A.fine A.wproj A.bproj
/-- The coarse projection. -/
def zc : Mat 1024 64 := proj A.coarse A.wproj A.bproj
/-- The pair layer's half that depends on the row. -/
def left : Mat 1024 16 := mm A.zf A.wm1
/-- The pair layer's half that depends on the column, its bias with it. -/
def right : Mat 1024 16 := fun j k => mm A.zc A.wm1 j k + A.bm1 k
/-- The whole network's loss. -/
def value : EReal := loss A.zf A.zc A.left A.right A.wm2 A.bm2

end Args

end Cert.Spec

end
-- ==== Proof.Scalars.lean ====
/- Scalar facts the two programs' stages are compared with: the two spellings of `elu`, the literals, and the reading of
   an array as a matrix. -/
module

public import proofs.«01_k».proof.Proof.Spec
public import Idealize.ShloMosaic.Lib.Pointwise

@[expose] public section

noncomputable section

namespace Cert.Spec

open Idealize.ShloMosaic

/-- An array of two axes as a matrix. -/
abbrev mat {n m : ℕ} (x : (⟨2, ![n, m]⟩ : Shape).Idx → EReal) : Mat n m := fun i j => x (ix2 i j)
/-- An array of one row as a vector. -/
abbrev row {m : ℕ} (x : (⟨2, ![1, m]⟩ : Shape).Idx → EReal) : Fin m → EReal := fun j => x (ix2 0 j)
/-- An array of one column as a vector. -/
abbrev col {n : ℕ} (x : (⟨2, ![n, 1]⟩ : Shape).Idx → EReal) : Fin n → EReal := fun i => x (ix2 i 0)
/-- An array of one axis as a vector. -/
abbrev vec {n : ℕ} (x : (⟨1, ![n]⟩ : Shape).Idx → EReal) : Fin n → EReal := fun i => x (ix1 i)

/-- A matrix as an array of two axes. -/
abbrev arr {n m : ℕ} (x : Mat n m) : (⟨2, ![n, m]⟩ : Shape).Idx → EReal := fun i => x (i 0) (i 1)

/-- `elu` with the exponential's argument held at zero or below. -/
theorem elu_min (x : EReal) : (if 0 < x then x else Ideal.exp (min x 0) - 1) = elu x := by
  unfold elu
  split
  · rfl
  · rename_i h; rw [min_eq_left (not_lt.mp h)]

/-- `elu` with the exponential's argument zero where the unit is the identity. -/
theorem elu_where (x : EReal) : (if 0 < x then x else Ideal.exp (if 0 < x then 0 else x) - 1) = elu x := by
  unfold elu
  split <;> rfl

/-- An entry of a product reads one row and one column. -/
theorem mm_congr {n n' k m m' : ℕ} {a : Mat n k} {a' : Mat n' k} {b : Mat k m} {b' : Mat k m'} {i i' j j'}
    (ha : ∀ t, a i t = a' i' t) (hb : ∀ t, b t j = b' t j') : mm a b i j = mm a' b' i' j' := by
  unfold mm; exact Finset.sum_congr rfl fun t _ => by rw [ha, hb]

/-- So does an entry of a linear layer, -/
theorem lin_congr {n n' k m m' : ℕ} {a : Mat n k} {a' : Mat n' k} {w : Mat k m} {w' : Mat k m'} {b : Fin m → EReal}
    {b' : Fin m' → EReal} {i i' j j'} (ha : ∀ t, a i t = a' i' t) (hw : ∀ t, w t j = w' t j') (hb : b j = b' j') :
    lin a w b i j = lin a' w' b' i' j' := by
  unfold lin; rw [mm_congr ha hw, hb]

/-- of a mean over neighbours, -/
theorem agg_congr {n n' k m m' : ℕ} {a : Mat n k} {a' : Mat n' k} {h : Mat k m} {h' : Mat k m'} {i i' j j'}
    (ha : ∀ t, a i t = a' i' t) (hh : ∀ t, h t j = h' t j') : agg a h i j = agg a' h' i' j' := by
  unfold agg cnt; rw [mm_congr ha hh, Finset.sum_congr rfl fun t _ => ha t]

/-- and of a view. -/
theorem view_congr {n n' k m m' : ℕ} {h : Mat n m} {h' : Mat n' m'} {a : Mat n k} {a' : Mat n' k} {w : Mat k m} {w' : Mat k m'}
    {i i' j j'} (hh : h i j = h' i' j') (ha : ∀ t, a i t = a' i' t) (hw : ∀ t, w t j = w' t j') :
    view h a w i j = view h' a' w' i' j' := by
  unfold view; rw [mm_congr ha hw, hh]

/-- Two, as the float literal prints it. -/
theorem two_lit : Ideal.ofBits .f32 0x40000000#32 = ((2 : ℝ) : EReal) := by
  simp [Ideal.ofBits, Ideal.ieee, -EReal.coe_mul]; norm_num

/-- Sixteen terms added one after another to a first. -/
theorem chain16 (c : EReal) (f : Fin 16 → EReal) :
    c + f 0 + f 1 + f 2 + f 3 + f 4 + f 5 + f 6 + f 7 + f 8 + f 9 + f 10 + f 11 + f 12 + f 13 + f 14 + f 15 = (∑ k, f k) + c := by
  simp only [Fin.sum_univ_succ, Fin.sum_univ_zero]
  simp only [Fin.succ_zero_eq_one, Fin.reduceSucc, add_zero]
  abel

end Cert.Spec

end
-- ==== Proof.Widen.lean ====
/- Zero padding: a matrix widened by zeros, and the sums over the wider axis that are the sums over the narrower one. -/
module

public import proofs.«01_k».proof.Proof.Scalars

@[expose] public section

noncomputable section

namespace Cert.Spec

open Idealize.ShloMosaic

/-- A matrix with zeros past its last row and column. -/
def widen {n k : ℕ} (N K : ℕ) (a : Mat n k) : Mat N K :=
  fun i j => if h : i.val < n ∧ j.val < k then a ⟨i.val, h.1⟩ ⟨j.val, h.2⟩ else 0

/-- Inside, it is the matrix. -/
theorem widen_in {n k N K : ℕ} (a : Mat n k) (i : Fin N) (j : Fin K) (i' : Fin n) (j' : Fin k) (hi : i.val = i'.val)
    (hj : j.val = j'.val) : widen N K a i j = a i' j' := by
  unfold widen
  rw [dif_pos ⟨hi ▸ i'.isLt, hj ▸ j'.isLt⟩]
  congr 1 <;> exact Fin.ext (by assumption)

/-- Past its rows or its columns, zero. -/
theorem widen_out {n k N K : ℕ} (a : Mat n k) (i : Fin N) (j : Fin K) (h : n ≤ i.val ∨ k ≤ j.val) : widen N K a i j = 0 := by
  unfold widen
  exact dif_neg fun h' => by omega

/-- Padding by zeros past the last row and column. -/
theorem pad_widen {n k N K p q : ℕ} (x : (⟨2, ![n, k]⟩ : Shape).Idx → EReal) {u : Shape} (v : u.Idx → EReal) (hu : 0 < u.numel)
    (hv : v (Shape.Idx.first hu) = 0) (h : (⟨2, ![n, k]⟩ : Shape).Pads ![0, 0] ![p, q] ![0, 0] ⟨2, ![N, K]⟩) :
    pad ⟨2, ![N, K]⟩ ![0, 0] ![p, q] ![0, 0] x v h hu = arr (widen N K (mat x)) := by
  funext y
  unfold pad widen
  split
  · rename_i hin
    have h0 := (hin 0).2.2
    have h1 := (hin 1).2.2
    simp at h0 h1
    rw [arr, dif_pos ⟨h0, h1⟩]
    refine congrArg x (funext fun a => Fin.ext ?_)
    match a with
    | ⟨0, _⟩ => simp
    | ⟨1, _⟩ => simp
  · rename_i hin
    rw [arr, dif_neg ?_, hv]
    rintro ⟨h0, h1⟩
    refine hin fun a => ?_
    match a with
    | ⟨0, _⟩ => simpa [Nat.mod_one] using h0
    | ⟨1, _⟩ => simpa [Nat.mod_one] using h1

/-- A sum whose terms are zero from some place on is the sum up to it. -/
theorem sum_short {k K : ℕ} (h : k ≤ K) (f : Fin K → EReal) (g : Fin k → EReal) (hg : ∀ t : Fin k, f (Fin.castLE h t) = g t)
    (h0 : ∀ t : Fin K, k ≤ t.val → f t = 0) : ∑ t, f t = ∑ t, g t := by
  obtain ⟨d, rfl⟩ := Nat.exists_eq_add_of_le h
  rw [Fin.sum_univ_add, Finset.sum_eq_zero (f := fun i => f (Fin.natAdd k i)) fun t _ => h0 _ (by simp), add_zero]
  exact Finset.sum_congr rfl fun t _ => hg t

/-- A linear layer whose weights are widened is the layer of the weights. -/
theorem lin_widen {N n k K m : ℕ} (h : k ≤ K) (a' : Mat N K) (a : Mat n k) (w : Mat k m) (b b' : Fin m → EReal) (i' : Fin N)
    (i : Fin n) (j : Fin m) (ha : ∀ t : Fin k, a' i' (Fin.castLE h t) = a i t) (hb : b' = b) :
    lin a' (widen K m w) b' i' j = lin a w b i j := by
  unfold lin mm
  rw [hb, sum_short h _ (fun t => a i t * w t j)]
  · intro t
    rw [ha, widen_in w (Fin.castLE h t) j t j rfl rfl]
  · intro t ht
    rw [widen_out w t j (Or.inl ht), mul_zero]

/-- A mean over widened neighbours is the mean over the neighbours. -/
theorem agg_widen {n k K m : ℕ} (h : k ≤ K) (a : Mat n k) (x' : Mat K m) (x : Mat k m) (i : Fin n) (j : Fin m)
    (hx : ∀ t : Fin k, x' (Fin.castLE h t) j = x t j) : agg (widen n K a) x' i j = agg a x i j := by
  have hc : ∑ t, widen n K a i t = ∑ t, a i t :=
    sum_short h _ _ (fun t => widen_in a i _ i t rfl rfl) fun t ht => widen_out a i t (Or.inr ht)
  unfold agg mm cnt
  rw [hc, sum_short h _ (fun t => a i t * x t j)]
  · intro t
    rw [hx, widen_in a i (Fin.castLE h t) i t rfl rfl]
  · intro t ht
    rw [widen_out a i t (Or.inr ht), zero_mul]

end Cert.Spec

end
-- ==== Proof.Hosts.lean ====
/- What each stretch of host operations of the kernel's program leaves in the buffers the custom calls read, over any
   contents before it. -/
module

public import proofs.«01_k».proof.Proof.Widen
public import proofs.«01_k».proof.Proof.Gen.KernelIdeal.Launch
public import Idealize.ShloMosaic.Lib.Pointwise
public import Idealize.ShloMosaic.Lib.Claim

@[expose] public section

set_option maxRecDepth 16384

noncomputable section

namespace Cert.KernelIdeal.Host

open Cert.KernelIdeal Cert.KernelIdeal.Gen Idealize.ShloMosaic Idealize.ShloMosaic.TcCoe Cert.Spec

variable (W : Valuation τ sig (Elt Ideal))

/-- The padding value: the integer zero as a float. -/
theorem zero_word : FloatOps.sitofp (F := Ideal) .f32 (0#32 : BitVec 32) = 0 := by
  show (((0#32 : BitVec 32).toInt : ℝ) : EReal) = 0
  simp

/-- The padding's integer zero. -/
theorem c_0 : StableHlo.after hostOps0 W (Proc.devRef .tc main_c) = constantI S_ 32 0#32 := by
  after_results_simp
/-- The padding's integer zero. -/
theorem c_0_0_2 : StableHlo.after hostOps0_2 W (Proc.devRef .tc main_c_0) = constantI S_ 32 0#32 := by
  after_results_simp
/-- The padding's integer zero. -/
theorem c_1_0_4 : StableHlo.after hostOps0_4 W (Proc.devRef .tc main_c_1) = constantI S_ 32 0#32 := by
  after_results_simp
/-- The padding's integer zero. -/
theorem c_2_0_6 : StableHlo.after hostOps0_6 W (Proc.devRef .tc main_c_2) = constantI S_ 32 0#32 := by
  after_results_simp
/-- The padding's integer zero. -/
theorem c_3_0_8 : StableHlo.after hostOps0_8 W (Proc.devRef .tc main_c_3) = constantI S_ 32 0#32 := by
  after_results_simp
/-- The padding's integer zero. -/
theorem c_4_0_10 : StableHlo.after hostOps0_10 W (Proc.devRef .tc main_c_4) = constantI S_ 32 0#32 := by
  after_results_simp
/-- The padding's integer zero. -/
theorem c_5_0_12 : StableHlo.after hostOps0_12 W (Proc.devRef .tc main_c_5) = constantI S_ 32 0#32 := by
  after_results_simp
/-- An argument padded by zeros. -/
theorem v0 (h : W (Proc.devRef .tc main_c) = constantI S_ 32 0#32) :
    StableHlo.after hostOps0_1 W (Proc.devRef .tc main_v0) = arr (widen 1024 1920 (mat (W (Proc.devRef .tc main_arg0)))) := by
  after_results_simp
  rw [h]
  exact pad_widen _ _ h_S_ zero_word pads_S1024x1902_S1024x1920_000_0180
/-- An argument padded by zeros. -/
theorem v1 (h : W (Proc.devRef .tc main_c_0) = constantI S_ 32 0#32) :
    StableHlo.after hostOps0_3 W (Proc.devRef .tc main_v1) = arr (widen 1024 1920 (mat (W (Proc.devRef .tc main_arg3)))) := by
  after_results_simp
  rw [h]
  exact pad_widen _ _ h_S_ zero_word pads_S1024x1902_S1024x1920_000_0180
/-- An argument padded by zeros. -/
theorem v3 (h : W (Proc.devRef .tc main_c_1) = constantI S_ 32 0#32) :
    StableHlo.after hostOps0_5 W (Proc.devRef .tc main_v3) = arr (widen 1920 256 (mat (W (Proc.devRef .tc main_arg10)))) := by
  after_results_simp
  rw [h]
  exact pad_widen _ _ h_S_ zero_word pads_S1902x256_S1920x256_0180_000
/-- An argument padded by zeros. -/
theorem v4 (h : W (Proc.devRef .tc main_c_2) = constantI S_ 32 0#32) :
    StableHlo.after hostOps0_7 W (Proc.devRef .tc main_v4) = arr (widen 4096 384 (mat (W (Proc.devRef .tc main_arg1)))) := by
  after_results_simp
  rw [h]
  exact pad_widen _ _ h_S_ zero_word pads_S4096x334_S4096x384_000_0500
/-- An argument padded by zeros. -/
theorem v5 (h : W (Proc.devRef .tc main_c_3) = constantI S_ 32 0#32) :
    StableHlo.after hostOps0_9 W (Proc.devRef .tc main_v5) = arr (widen 384 256 (mat (W (Proc.devRef .tc main_arg12)))) := by
  after_results_simp
  rw [h]
  exact pad_widen _ _ h_S_ zero_word pads_S334x256_S384x256_0500_000
/-- An argument padded by zeros. -/
theorem v6 (h : W (Proc.devRef .tc main_c_4) = constantI S_ 32 0#32) :
    StableHlo.after hostOps0_11 W (Proc.devRef .tc main_v6) = arr (widen 64 64 (mat (W (Proc.devRef .tc main_arg2)))) := by
  after_results_simp
  rw [h]
  exact pad_widen _ _ h_S_ zero_word pads_S60x64_S64x64_040_000
/-- An argument padded by zeros. -/
theorem v7 (h : W (Proc.devRef .tc main_c_5) = constantI S_ 32 0#32) :
    StableHlo.after hostOps0_13 W (Proc.devRef .tc main_v7) = arr (widen 1024 64 (mat (W (Proc.devRef .tc main_arg9)))) := by
  after_results_simp
  rw [h]
  exact pad_widen _ _ h_S_ zero_word pads_S1024x60_S1024x64_000_040
/-- The two padded feature matrices one above the other. -/
theorem v2 : StableHlo.after hostOps0_4 W (Proc.devRef .tc main_v2) = arr (fun (i : Fin 2048) (t : Fin 1920) =>
    if h : i.val < 1024 then mat (W (Proc.devRef .tc main_v0)) ⟨i.val, h⟩ t
    else mat (W (Proc.devRef .tc main_v1)) ⟨i.val - 1024, by omega⟩ t) := by
  after_results_simp
  funext y
  idx_vars y
  pointwise []
  rfl

/-- The first half of the rows, -/
theorem v10 : StableHlo.after hostOps1 W (Proc.devRef .tc main_v10) = arr (fun (i : Fin 1024) (j : Fin 256) =>
    mat (W (Proc.devRef .tc main_v9)) ⟨i.val, by omega⟩ j) := by
  after_results_simp
  funext y
  idx_vars y
  pointwise []
  rfl
/-- and the second. -/
theorem v11 : StableHlo.after hostOps1 W (Proc.devRef .tc main_v11) = arr (fun (i : Fin 1024) (j : Fin 256) =>
    mat (W (Proc.devRef .tc main_v9)) ⟨1024 + i.val, by omega⟩ j) := by
  after_results_simp
  funext y
  idx_vars y
  pointwise []
  rfl
/-- A vector laid out as one row. -/
theorem v8 : row (StableHlo.after hostOps0_14 W (Proc.devRef .tc main_v8)) = vec (W (Proc.devRef .tc main_arg11)) := by
  after_results_simp
  funext j
  change shapeCast _ _ _ (ix2 0 j) = _
  pointwise []
  done
/-- A vector laid out as one row. -/
theorem v12 : row (StableHlo.after hostOps1 W (Proc.devRef .tc main_v12)) = vec (W (Proc.devRef .tc main_arg13)) := by
  after_results_simp
  funext j
  change shapeCast _ _ _ (ix2 0 j) = _
  pointwise []
  done
/-- A vector laid out as one row. -/
theorem v15 : row (StableHlo.after hostOps3 W (Proc.devRef .tc main_v15)) = vec (W (Proc.devRef .tc main_arg15)) := by
  after_results_simp
  funext j
  change shapeCast _ _ _ (ix2 0 j) = _
  pointwise []
  done
/-- A vector laid out as one row. -/
theorem v18 : row (StableHlo.after hostOps5 W (Proc.devRef .tc main_v18)) = vec (W (Proc.devRef .tc main_arg19)) := by
  after_results_simp
  funext j
  change shapeCast _ _ _ (ix2 0 j) = _
  pointwise []
  done
/-- A vector laid out as one row. -/
theorem v19 : row (StableHlo.after hostOps5 W (Proc.devRef .tc main_v19)) = vec (W (Proc.devRef .tc main_arg21)) := by
  after_results_simp
  funext j
  change shapeCast _ _ _ (ix2 0 j) = _
  pointwise []
  done
/-- A vector laid out as one row. -/
theorem v21 : row (StableHlo.after hostOps6 W (Proc.devRef .tc main_v21)) = vec (W (Proc.devRef .tc main_arg23)) := by
  after_results_simp
  funext j
  change shapeCast _ _ _ (ix2 0 j) = _
  pointwise []
  done
/-- A vector laid out as one row. -/
theorem v24 : row (StableHlo.after hostOps7 W (Proc.devRef .tc main_v24)) = vec (W (Proc.devRef .tc main_arg23)) := by
  after_results_simp
  funext j
  change shapeCast _ _ _ (ix2 0 j) = _
  pointwise []
  done
/-- A vector laid out as one row. -/
theorem v27 : row (StableHlo.after hostOps8 W (Proc.devRef .tc main_v27)) = vec (W (Proc.devRef .tc main_arg23)) := by
  after_results_simp
  funext j
  change shapeCast _ _ _ (ix2 0 j) = _
  pointwise []
  done
/-- A vector laid out as one row. -/
theorem v30 : row (StableHlo.after hostOps9 W (Proc.devRef .tc main_v30)) = vec (W (Proc.devRef .tc main_arg23)) := by
  after_results_simp
  funext j
  change shapeCast _ _ _ (ix2 0 j) = _
  pointwise []
  done
/-- A vector laid out as one row. -/
theorem v46 : row (StableHlo.after hostOps10 W (Proc.devRef .tc main_v46)) = vec (W (Proc.devRef .tc main_arg26)) := by
  after_results_simp
  funext j
  change shapeCast _ _ _ (ix2 0 j) = _
  pointwise []
  done
/-- A vector laid out as one row. -/
theorem v47 : row (StableHlo.after hostOps10 W (Proc.devRef .tc main_v47)) = vec (W (Proc.devRef .tc main_arg28)) := by
  after_results_simp
  funext j
  change shapeCast _ _ _ (ix2 0 j) = _
  pointwise []
  done
/-- A vector laid out as one column. -/
theorem v22 : col (StableHlo.after hostOps6 W (Proc.devRef .tc main_v22)) = vec (W (Proc.devRef .tc main_arg24)) := by
  after_results_simp
  funext j
  change shapeCast _ _ _ (ix2 j 0) = _
  pointwise []
  done
/-- A vector laid out as one column. -/
theorem v25 : col (StableHlo.after hostOps7 W (Proc.devRef .tc main_v25)) = vec (W (Proc.devRef .tc main_arg24)) := by
  after_results_simp
  funext j
  change shapeCast _ _ _ (ix2 j 0) = _
  pointwise []
  done
/-- A vector laid out as one column. -/
theorem v28 : col (StableHlo.after hostOps8 W (Proc.devRef .tc main_v28)) = vec (W (Proc.devRef .tc main_arg24)) := by
  after_results_simp
  funext j
  change shapeCast _ _ _ (ix2 j 0) = _
  pointwise []
  done
/-- A vector laid out as one column. -/
theorem v31 : col (StableHlo.after hostOps9 W (Proc.devRef .tc main_v31)) = vec (W (Proc.devRef .tc main_arg24)) := by
  after_results_simp
  funext j
  change shapeCast _ _ _ (ix2 j 0) = _
  pointwise []
  done
/-- The pair layer's last weights, a column laid out as a row, -/
theorem v49 : row (StableHlo.after hostOps11 W (Proc.devRef .tc main_v49)) = col (W (Proc.devRef .tc main_arg29)) := by
  after_results_simp
  funext j
  change shapeCast _ _ _ (ix2 0 j) = _
  pointwise []
  done
/-- and its last bias. -/
theorem v50 : row (StableHlo.after hostOps11 W (Proc.devRef .tc main_v50)) 0 = vec (W (Proc.devRef .tc main_arg30)) 0 := by
  after_results_simp
  change shapeCast _ _ _ (ix2 0 0) = _
  pointwise []
  done

/-- The bits of minus infinity. -/
theorem bot_lit : Ideal.ofBits .f32 4286578688#32 = ⊥ := by
  simp [Ideal.ofBits, Ideal.ieee]

/-- The softmax of the four scores. -/
theorem v45 : row (StableHlo.after hostOps10 W (Proc.devRef .tc main_v45)) = softmax ![mat (W (Proc.devRef .tc main_v23_1)) 0 0,
    mat (W (Proc.devRef .tc main_v26_1)) 0 0, mat (W (Proc.devRef .tc main_v29_1)) 0 0, mat (W (Proc.devRef .tc main_v32_1)) 0 0] := by
  after_results_simp
  funext k
  change shapeCast _ _ _ (ix2 0 k) = _
  pointwise []
  simp only [bot_lit, bot_le, max_eq_right]
  have hs : ∀ x : Fin 4, (if h : x.val < 1 then W (Proc.devRef .tc main_v23_1) (ix2 0 ⟨x.val, h⟩)
      else if h : x.val - 1 < 1 then W (Proc.devRef .tc main_v26_1) (ix2 0 ⟨x.val - 1, h⟩)
      else if h : x.val - 1 - 1 < 1 then W (Proc.devRef .tc main_v29_1) (ix2 0 ⟨x.val - 1 - 1, h⟩)
      else W (Proc.devRef .tc main_v32_1) (ix2 0 ⟨x.val - 1 - 1 - 1, by omega⟩))
      = (![mat (W (Proc.devRef .tc main_v23_1)) 0 0, mat (W (Proc.devRef .tc main_v26_1)) 0 0,
          mat (W (Proc.devRef .tc main_v29_1)) 0 0, mat (W (Proc.devRef .tc main_v32_1)) 0 0] : Fin 4 → EReal) x := by
    intro x
    fin_cases x <;> rfl
  simp only [hs]
  rfl

/-- The loss from the weighted sums and the rows' own logits. -/
theorem v57 : StableHlo.after hostOps12 W (Proc.devRef .tc main_v57) = fun _ => Ideal.div (∑ i : Fin 1024,
    (Ideal.log (W (Proc.devRef .tc main_v51_0) (ix3 ⟨i.val / 128, by omega⟩ 0 ⟨i.val % 128, by omega⟩))
      - W (Proc.devRef .tc main_v51_1) (ix3 ⟨i.val / 128, by omega⟩ 0 ⟨i.val % 128, by omega⟩))) rows := by
  after_results_simp
  funext y
  obtain rfl : y = ix0 := Subsingleton.elim _ _
  pointwise []

end Cert.KernelIdeal.Host

end
-- ==== Proof.Payloads.lean ====
/- What each of the kernel's bodies stores, at an entry, as the stage of the mathematics it is. -/
module

public import proofs.«01_k».proof.Proof.Scalars
public import proofs.«01_k».proof.Proof.Gen.KernelIdeal.Skeleton

@[expose] public section

set_option maxRecDepth 16384

noncomputable section

namespace Cert.KernelIdeal.Pay

open Cert.KernelIdeal Cert.KernelIdeal.Gen Idealize.ShloMosaic Cert.Spec

/-- The targets' linear layer. -/
theorem lin0 (x : Vec Ideal S256x1920 .f32) (w : Vec Ideal S1920x256 .f32) (b : Vec Ideal S1x256 .f32) :
    mat (k0_pay1 x w b) = lin (mat x) (mat w) (row b) := by
  funext i j; pointwise [k0_pay1]; exact elu_min _

/-- The first neighbours' linear layer. -/
theorem lin1 (x : Vec Ideal S512x384 .f32) (w : Vec Ideal S384x256 .f32) (b : Vec Ideal S1x256 .f32) :
    mat (k1_pay1 x w b) = lin (mat x) (mat w) (row b) := by
  funext i j; pointwise [k1_pay1]; exact elu_min _

/-- The mean over the first neighbours. -/
theorem agg2 (a : Vec Ideal S256x4096 .f32) (h : Vec Ideal S4096x256 .f32) : mat (k2_pay1 a h) = agg (mat a) (mat h) := by
  funext i j; pointwise [k2_pay1]; rfl

/-- The second neighbours' linear layer and their mean. -/
theorem agg3 (x : Vec Ideal S64x64 .f32) (w : Vec Ideal S64x256 .f32) (b : Vec Ideal S1x256 .f32) (a : Vec Ideal S1024x64 .f32) :
    mat (k3_pay1 x w b a) = agg (mat a) (lin (mat x) (mat w) (row b)) := by
  funext i j; pointwise [k3_pay1]; simp only [elu_min]; rfl

/-- The four views. -/
theorem view4_0 (a : Vec Ideal S256x256 .f32) (w : Vec Ideal S256x256 .f32) (h : Vec Ideal S256x256 .f32) :
    mat (k4_pay7 a w h) = view (mat h) (mat a) (mat w) := by
  funext i j; pointwise [k4_pay7, k4_pay3, k4_pay5]; exact elu_min _
/-- The second view. -/
theorem view4_1 (a : Vec Ideal S256x256 .f32) (w : Vec Ideal S256x256 .f32) (h : Vec Ideal S256x256 .f32) :
    mat (k4_pay8 a w h) = view (mat h) (mat a) (mat w) := by
  funext i j; pointwise [k4_pay8, k4_pay4, k4_pay5]; exact elu_min _

/-- The coarse convolution. -/
theorem gcn5 (a0 a1 : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) :
    mat (k5_pay1 a0 a1 x w1 b1 w2 b2) = gcn (adjMean (mat a0) (mat a1)) (mat x) (mat w1) (row b1) (mat w2) (row b2) := by
  funext i j; pointwise [k5_pay1]; rfl

/-- The fine convolutions, rows normalized. -/
theorem gcn6 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) :
    mat (k6_pay2 a x w1 b1 w2 b2) = normalize (gcn (mat a) (mat x) (mat w1) (row b1) (mat w2) (row b2)) := by
  funext i j; pointwise [k6_pay2]; rfl

/-- The same for call 7. -/
theorem gcn7 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) :
    mat (k7_pay2 a x w1 b1 w2 b2) = normalize (gcn (mat a) (mat x) (mat w1) (row b1) (mat w2) (row b2)) := gcn6 a x w1 b1 w2 b2

/-- The same for call 8. -/
theorem gcn8 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) :
    mat (k8_pay2 a x w1 b1 w2 b2) = normalize (gcn (mat a) (mat x) (mat w1) (row b1) (mat w2) (row b2)) := gcn6 a x w1 b1 w2 b2

/-- The same for call 9. -/
theorem gcn9 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) :
    mat (k9_pay2 a x w1 b1 w2 b2) = normalize (gcn (mat a) (mat x) (mat w1) (row b1) (mat w2) (row b2)) := gcn6 a x w1 b1 w2 b2

/-- The hidden layer of a view's score, -/
theorem hid6 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) (wa : Vec Ideal S64x64 .f32)
    (ba : Vec Ideal S1x64 .f32) (i : Fin 1024) (j : Fin 64) :
    k6_pay3 a x w1 b1 w2 b2 wa ba (ix2 i j)
      = Ideal.tanh (mm (mat (k6_pay2 a x w1 b1 w2 b2)) (mat wa) i j + row ba j) := by
  generalize e : k6_pay2 a x w1 b1 w2 b2 = h
  pointwise [k6_pay3]
  rw [e]
  rfl

/-- and the score. -/
theorem score6 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) (wa : Vec Ideal S64x64 .f32)
    (ba : Vec Ideal S1x64 .f32) (aa : Vec Ideal S64x1 .f32) (i j : Fin 1) :
    k6_pay1 (k6_pay3 a x w1 b1 w2 b2 wa ba) aa (ix2 i j)
      = score (normalize (gcn (mat a) (mat x) (mat w1) (row b1) (mat w2) (row b2))) (mat wa) (row ba) (col aa) := by
  rw [← gcn6]
  pointwise [k6_pay1]
  simp only [hid6, Finset.univ_unique, Finset.sum_singleton]
  rfl

/-- The same for call 7. -/
theorem score7 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) (wa : Vec Ideal S64x64 .f32)
    (ba : Vec Ideal S1x64 .f32) (aa : Vec Ideal S64x1 .f32) (i j : Fin 1) :
    k7_pay1 (k7_pay3 a x w1 b1 w2 b2 wa ba) aa (ix2 i j)
      = score (normalize (gcn (mat a) (mat x) (mat w1) (row b1) (mat w2) (row b2))) (mat wa) (row ba) (col aa) :=
  score6 a x w1 b1 w2 b2 wa ba aa i j

/-- The same for call 8. -/
theorem score8 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) (wa : Vec Ideal S64x64 .f32)
    (ba : Vec Ideal S1x64 .f32) (aa : Vec Ideal S64x1 .f32) (i j : Fin 1) :
    k8_pay1 (k8_pay3 a x w1 b1 w2 b2 wa ba) aa (ix2 i j)
      = score (normalize (gcn (mat a) (mat x) (mat w1) (row b1) (mat w2) (row b2))) (mat wa) (row ba) (col aa) :=
  score6 a x w1 b1 w2 b2 wa ba aa i j

/-- The same for call 9. -/
theorem score9 (a : Vec Ideal S1024x1024 .f32) (x : Vec Ideal S1024x256 .f32) (w1 : Vec Ideal S256x64 .f32)
    (b1 : Vec Ideal S1x64 .f32) (w2 : Vec Ideal S64x64 .f32) (b2 : Vec Ideal S1x64 .f32) (wa : Vec Ideal S64x64 .f32)
    (ba : Vec Ideal S1x64 .f32) (aa : Vec Ideal S64x1 .f32) (i j : Fin 1) :
    k9_pay1 (k9_pay3 a x w1 b1 w2 b2 wa ba) aa (ix2 i j)
      = score (normalize (gcn (mat a) (mat x) (mat w1) (row b1) (mat w2) (row b2))) (mat wa) (row ba) (col aa) :=
  score6 a x w1 b1 w2 b2 wa ba aa i j

/-- The third and fourth views. -/
theorem view4_2 (a : Vec Ideal S256x256 .f32) (w : Vec Ideal S256x256 .f32) (h : Vec Ideal S256x256 .f32) :
    mat (k4_pay1 (k4_pay9 a w h)) = view (mat h) (mat a) (mat w) := by
  funext i j; pointwise [k4_pay1, k4_pay9, k4_pay3, k4_pay6]; exact elu_min _
/-- The fourth view. -/
theorem view4_3 (a : Vec Ideal S256x256 .f32) (w : Vec Ideal S256x256 .f32) (h : Vec Ideal S256x256 .f32) :
    mat (k4_pay2 (k4_pay4 a w) (k4_pay6 h)) = view (mat h) (mat a) (mat w) := by
  funext i j; pointwise [k4_pay2, k4_pay4, k4_pay6]; exact elu_min _

/-- The fine projection before its rows are normalized, -/
theorem pre10 (β : Vec Ideal S1x4 .f32) (h0 h1 h2 h3 : Vec Ideal S1024x64 .f32) (w : Vec Ideal S64x64 .f32) (b : Vec Ideal S1x64 .f32) :
    mat (k10_pay1 β h0 h1 h2 h3 w b)
      = fun i j => Ideal.tanh (mm (blend (row β) (mat h0) (mat h1) (mat h2) (mat h3)) (mat w) i j + row b j) := by
  funext i j; pointwise [k10_pay1]; rfl

/-- and after. -/
theorem fine10 (β : Vec Ideal S1x4 .f32) (h0 h1 h2 h3 : Vec Ideal S1024x64 .f32) (w : Vec Ideal S64x64 .f32) (b : Vec Ideal S1x64 .f32) :
    mat (k10_pay3 (k10_pay1 β h0 h1 h2 h3 w b) (k10_pay2 β h0 h1 h2 h3 w b))
      = proj (blend (row β) (mat h0) (mat h1) (mat h2) (mat h3)) (mat w) (row b) := by
  unfold proj
  rw [← pre10]
  generalize e : k10_pay1 β h0 h1 h2 h3 w b = h
  funext i j; pointwise [k10_pay3, k10_pay2]
  rw [e]
  rfl

/-- The coarse projection. -/
theorem coarse10 (z : Vec Ideal S1024x64 .f32) (w : Vec Ideal S64x64 .f32) (b : Vec Ideal S1x64 .f32) :
    mat (k10_pay4 z w b) = proj (mat z) (mat w) (row b) := by
  funext i j; pointwise [k10_pay4]; rfl

/-- The pair layer's half that depends on the row. -/
theorem left10 (x y : FVec Ideal S1024x64 .f32) (w : Vec Ideal S64x16 .f32) :
    mat (k10_pay5 x y w) = mm (mat (k10_pay3 x y)) (mat w) := by
  generalize e : k10_pay3 x y = h
  funext i j
  change k10_pay5 x y w (ix2 i j) = _
  pointwise [k10_pay5]
  rw [e]; rfl

/-- The other half, transposed. -/
theorem right10 (z : Vec Ideal S1024x64 .f32) (w : Vec Ideal S64x64 .f32) (b : Vec Ideal S1x64 .f32) (wm : Vec Ideal S64x16 .f32)
    (bm : Vec Ideal S1x16 .f32) :
    mat (k10_pay6 z w b wm bm) = fun k j => mm (proj (mat z) (mat w) (row b)) (mat wm) j k + row bm k := by
  rw [← coarse10]
  generalize e : k10_pay4 z w b = h
  funext i j; pointwise [k10_pay6]; rw [e]; rfl

end Cert.KernelIdeal.Pay

end
-- ==== Proof.Region0.lean ====
/- What the first custom call leaves in its output array, from the arrays it reads. -/
module

public import proofs.«01_k».proof.Proof.Payloads
public import proofs.«01_k».proof.Proof.Gen.KernelIdeal.Frame.Region0
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Where each window's block stands. -/
theorem index0 (t : Fin cfg0.N) : win0_0.index t = ![t.val, 0] ∧ win0_1.index t = ![0, 0] ∧ win0_2.index t = ![0, 0] ∧ win0_3.index t = ![t.val, 0] := by
  revert t; decide +kernel

set_option maxHeartbeats 2000000 in
/-- The targets' features, both kinds stacked. -/
theorem arr0 (c : Dev nD) : (dat0 V c).arrAt 3 cfg0.N = arr (lin (mat (V c (Pipeline.arrRef spec0 0))) (mat (V c (Pipeline.arrRef spec0 1))) (row (V c (Pipeline.arrRef spec0 2)))) := by
  refine (dat0 V c).arrAt_eq_of_covers 3 _ (by decide +kernel) fun t hf y => ?_
  blk_simp
  rw [after0_3]
  frame_out
  idx_vars y
  refine (congrFun (congrFun (Pay.lin0 _ _ _ ) _) _).trans (lin_congr (fun k => ?_) (fun k => ?_) ?_)
  all_goals dsimp only [mat, row]
  all_goals blk_ext [iblk0, index0 t]

end Cert.KernelIdeal.Val

end
-- ==== Proof.Region1.lean ====
/- What the first neighbours' custom call leaves in its output array, from the arrays it reads. -/
module

public import proofs.«01_k».proof.Proof.Payloads
public import proofs.«01_k».proof.Proof.Gen.KernelIdeal.Frame.Region1
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Where each window's block stands. -/
theorem index1 (t : Fin cfg1.N) : win1_0.index t = ![t.val, 0] ∧ win1_1.index t = ![0, 0] ∧ win1_2.index t = ![0, 0] ∧ win1_3.index t = ![t.val, 0] := by
  revert t; decide +kernel

set_option maxHeartbeats 2000000 in
/-- The first neighbours' features. -/
theorem arr1 (c : Dev nD) : (dat1 V c).arrAt 3 cfg1.N = arr (lin (mat (V c (Pipeline.arrRef spec1 0))) (mat (V c (Pipeline.arrRef spec1 1))) (row (V c (Pipeline.arrRef spec1 2)))) := by
  refine (dat1 V c).arrAt_eq_of_covers 3 _ (by decide +kernel) fun t hf y => ?_
  blk_simp
  rw [after1_3]
  frame_out
  idx_vars y
  refine (congrFun (congrFun (Pay.lin1 _ _ _ ) _) _).trans (lin_congr (fun k => ?_) (fun k => ?_) ?_)
  all_goals dsimp only [mat, row]
  all_goals blk_ext [iblk1, index1 t]

end Cert.KernelIdeal.Val

end
-- ==== Proof.Region2.lean ====
/- What the first mean's custom call leaves in its output array, from the arrays it reads. -/
module

public import proofs.«01_k».proof.Proof.Payloads
public import proofs.«01_k».proof.Proof.Gen.KernelIdeal.Frame.Region2
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Where each window's block stands. -/
theorem index2 (t : Fin cfg2.N) : win2_0.index t = ![t.val, 0] ∧ win2_1.index t = ![0, 0] ∧ win2_2.index t = ![t.val, 0] := by
  revert t; decide +kernel

set_option maxHeartbeats 2000000 in
/-- The first neighbours' mean. -/
theorem arr2 (c : Dev nD) : (dat2 V c).arrAt 2 cfg2.N = arr (agg (mat (V c (Pipeline.arrRef spec2 0))) (mat (V c (Pipeline.arrRef spec2 1)))) := by
  refine (dat2 V c).arrAt_eq_of_covers 2 _ (by decide +kernel) fun t hf y => ?_
  blk_simp
  rw [after2_2]
  frame_out
  idx_vars y
  refine (congrFun (congrFun (Pay.agg2 _ _ ) _) _).trans (agg_congr (fun k => ?_) (fun k => ?_))
  all_goals dsimp only [mat, row]
  all_goals blk_ext [iblk2, index2 t]

end Cert.KernelIdeal.Val

end
-- ==== Proof.Region3.lean ====
/- What the second neighbours' custom call leaves in its output array, from the arrays it reads. -/
module

public import proofs.«01_k».proof.Proof.Payloads
public import proofs.«01_k».proof.Proof.Gen.KernelIdeal.Frame.Region3
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index3 (t : Fin cfg3.N) (w : Fin cfg3.W) (a) : (cfg3.win w).index t a = 0 := by
  revert t w a; decide +kernel

/-- So each input's block is what its array holds. -/
theorem blk3_0 (c : Dev nD) (t : Fin cfg3.N) : iblk3 V c 0 t = V c (Pipeline.arrRef spec3 0) := by
  funext y; blk_ext [iblk3, index3 t 0]
/-- Input 1 is staged whole. -/
theorem blk3_1 (c : Dev nD) (t : Fin cfg3.N) : iblk3 V c 1 t = V c (Pipeline.arrRef spec3 1) := by
  funext y; blk_ext [iblk3, index3 t 1]
/-- Input 2 is staged whole. -/
theorem blk3_2 (c : Dev nD) (t : Fin cfg3.N) : iblk3 V c 2 t = V c (Pipeline.arrRef spec3 2) := by
  funext y; blk_ext [iblk3, index3 t 2]
/-- Input 3 is staged whole. -/
theorem blk3_3 (c : Dev nD) (t : Fin cfg3.N) : iblk3 V c 3 t = V c (Pipeline.arrRef spec3 3) := by
  funext y; blk_ext [iblk3, index3 t 3]

set_option maxHeartbeats 1000000 in
/-- The second neighbours' mean. -/
theorem arr3 (c : Dev nD) : (dat3 V c).arrAt 4 cfg3.N = arr (agg (mat (V c (Pipeline.arrRef spec3 3))) (lin (mat (V c (Pipeline.arrRef spec3 0))) (mat (V c (Pipeline.arrRef spec3 1))) (row (V c (Pipeline.arrRef spec3 2))))) := by
  refine (dat3 V c).arrAt_eq_of_after_last 4 t3_0 (by decide +kernel) _ fun y => ?_
  blk_simp
  rw [after3_4]
  frame_out
  idx_vars y
  refine (congrFun (congrFun (Pay.agg3 _ _ _ _ ) _) _).trans ?_
  rw [blk3_0, blk3_1, blk3_2, blk3_3]
  rfl

end Cert.KernelIdeal.Val

end
-- ==== Proof.Region4.lean ====
/- What the views' custom call leaves in its output arrays, from the arrays it reads. -/
module

public import proofs.«01_k».proof.Proof.Payloads
public import proofs.«01_k».proof.Proof.Gen.KernelIdeal.Frame.Region4
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Where each window's block stands. -/
theorem index4 (t : Fin cfg4.N) : win4_0.index t = ![t.val, 0] ∧ win4_1.index t = ![t.val, 0] ∧ win4_2.index t = ![t.val, 0] ∧ win4_3.index t = ![t.val, 0] ∧ win4_4.index t = ![0, 0] ∧ win4_5.index t = ![0, 0] ∧ win4_6.index t = ![t.val, 0] ∧ win4_7.index t = ![t.val, 0] ∧ win4_8.index t = ![t.val, 0] ∧ win4_9.index t = ![t.val, 0] := by
  revert t; decide +kernel

set_option maxHeartbeats 2000000 in
/-- View 0. -/
theorem arr4_0 (c : Dev nD) : (dat4 V c).arrAt 6 cfg4.N = arr (view (mat (V c (Pipeline.arrRef spec4 0))) (mat (V c (Pipeline.arrRef spec4 2))) (mat (V c (Pipeline.arrRef spec4 4)))) := by
  refine (dat4 V c).arrAt_eq_of_covers 6 _ (by decide +kernel) fun t hf y => ?_
  blk_simp
  rw [after4_6]
  frame_out
  idx_vars y
  refine (congrFun (congrFun (Pay.view4_0 _ _ _ ) _) _).trans (view_congr ?_ (fun k => ?_) (fun k => ?_))
  all_goals dsimp only [mat, row]
  all_goals blk_ext [iblk4, index4 t]

set_option maxHeartbeats 2000000 in
/-- View 1. -/
theorem arr4_1 (c : Dev nD) : (dat4 V c).arrAt 7 cfg4.N = arr (view (mat (V c (Pipeline.arrRef spec4 0))) (mat (V c (Pipeline.arrRef spec4 3))) (mat (V c (Pipeline.arrRef spec4 5)))) := by
  refine (dat4 V c).arrAt_eq_of_covers 7 _ (by decide +kernel) fun t hf y => ?_
  blk_simp
  rw [after4_7]
  frame_out
  idx_vars y
  refine (congrFun (congrFun (Pay.view4_1 _ _ _ ) _) _).trans (view_congr ?_ (fun k => ?_) (fun k => ?_))
  all_goals dsimp only [mat, row]
  all_goals blk_ext [iblk4, index4 t]

set_option maxHeartbeats 2000000 in
/-- View 2. -/
theorem arr4_2 (c : Dev nD) : (dat4 V c).arrAt 8 cfg4.N = arr (view (mat (V c (Pipeline.arrRef spec4 1))) (mat (V c (Pipeline.arrRef spec4 2))) (mat (V c (Pipeline.arrRef spec4 4)))) := by
  refine (dat4 V c).arrAt_eq_of_covers 8 _ (by decide +kernel) fun t hf y => ?_
  blk_simp
  rw [after4_8]
  frame_out
  idx_vars y
  refine (congrFun (congrFun (Pay.view4_2 _ _ _ ) _) _).trans (view_congr ?_ (fun k => ?_) (fun k => ?_))
  all_goals dsimp only [mat, row]
  all_goals blk_ext [iblk4, index4 t]

set_option maxHeartbeats 2000000 in
/-- View 3. -/
theorem arr4_3 (c : Dev nD) : (dat4 V c).arrAt 9 cfg4.N = arr (view (mat (V c (Pipeline.arrRef spec4 1))) (mat (V c (Pipeline.arrRef spec4 3))) (mat (V c (Pipeline.arrRef spec4 5)))) := by
  refine (dat4 V c).arrAt_eq_of_covers 9 _ (by decide +kernel) fun t hf y => ?_
  blk_simp
  rw [after4_9]
  frame_out
  idx_vars y
  refine (congrFun (congrFun (Pay.view4_3 _ _ _ ) _) _).trans (view_congr ?_ (fun k => ?_) (fun k => ?_))
  all_goals dsimp only [mat, row]
  all_goals blk_ext [iblk4, index4 t]

end Cert.KernelIdeal.Val

end
-- ==== Proof.ChainViews.lean ====
/- The kernel's buffers up to the four views: each holds its stage of the network on the launch's arguments. -/
module

public import proofs.«01_k».proof.Proof.Hosts
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Gen.KernelIdeal.Frame.Fold0

@[expose] public section

set_option maxRecDepth 16384

noncomputable section

namespace Cert.KernelIdeal.Chain

open Cert.KernelIdeal Cert.KernelIdeal.Gen Idealize.ShloMosaic Idealize.ShloMosaic.TcCoe Cert.Spec

variable (m : (ℓ : Loc nD τ sig) → Buf (Elt Ideal) ℓ) (ρ : Dev nD → PrngReg) (c : Dev nD)

/-- The network's arguments as the launch finds them. -/
def K : Args where
  feat0 := mat (m ((c : Thread nD τ).loc main_arg0))
  feat1 := mat (m ((c : Thread nD τ).loc main_arg1))
  feat2 := mat (m ((c : Thread nD τ).loc main_arg2))
  maskFeat := mat (m ((c : Thread nD τ).loc main_arg3))
  adj0 := mat (m ((c : Thread nD τ).loc main_arg4))
  adj1 := mat (m ((c : Thread nD τ).loc main_arg5))
  maskAdj0 := mat (m ((c : Thread nD τ).loc main_arg6))
  maskAdj1 := mat (m ((c : Thread nD τ).loc main_arg7))
  nei0 := mat (m ((c : Thread nD τ).loc main_arg8))
  nei1 := mat (m ((c : Thread nD τ).loc main_arg9))
  wfc0 := mat (m ((c : Thread nD τ).loc main_arg10))
  bfc0 := vec (m ((c : Thread nD τ).loc main_arg11))
  wfc1 := mat (m ((c : Thread nD τ).loc main_arg12))
  bfc1 := vec (m ((c : Thread nD τ).loc main_arg13))
  wfc2 := mat (m ((c : Thread nD τ).loc main_arg14))
  bfc2 := vec (m ((c : Thread nD τ).loc main_arg15))
  wagg0 := mat (m ((c : Thread nD τ).loc main_arg16))
  wagg1 := mat (m ((c : Thread nD τ).loc main_arg17))
  wg1 := mat (m ((c : Thread nD τ).loc main_arg18))
  bg1 := vec (m ((c : Thread nD τ).loc main_arg19))
  wg2 := mat (m ((c : Thread nD τ).loc main_arg20))
  bg2 := vec (m ((c : Thread nD τ).loc main_arg21))
  watt := mat (m ((c : Thread nD τ).loc main_arg22))
  batt := vec (m ((c : Thread nD τ).loc main_arg23))
  aatt := vec (m ((c : Thread nD τ).loc main_arg24))
  wproj := mat (m ((c : Thread nD τ).loc main_arg25))
  bproj := vec (m ((c : Thread nD τ).loc main_arg26))
  wm1 := mat (m ((c : Thread nD τ).loc main_arg27))
  bm1 := vec (m ((c : Thread nD τ).loc main_arg28))
  wm2 := col (m ((c : Thread nD τ).loc main_arg29))
  bm2 := vec (m ((c : Thread nD τ).loc main_arg30)) 0

/-- The argument padded by zeros. -/
theorem p_v0 : W2 m ρ c (Proc.devRef .tc main_v0) = arr (widen 1024 1920 (K m c).feat0) := by
  refine (Host.v0 (W1 m ρ c) (Host.c_0 (W0 m ρ c))).trans ?_
  rw [W1_args m ρ c main_arg0 (by decide +kernel)]
  rfl
/-- The argument padded by zeros. -/
theorem p_v1 : W4 m ρ c (Proc.devRef .tc main_v1) = arr (widen 1024 1920 (K m c).maskFeat) := by
  refine (Host.v1 (W3 m ρ c) (Host.c_0_0_2 (W2 m ρ c))).trans ?_
  rw [W3_args m ρ c main_arg3 (by decide +kernel)]
  rfl
/-- The argument padded by zeros. -/
theorem p_v3 : W6 m ρ c (Proc.devRef .tc main_v3) = arr (widen 1920 256 (K m c).wfc0) := by
  refine (Host.v3 (W5 m ρ c) (Host.c_1_0_4 (W4 m ρ c))).trans ?_
  rw [W5_args m ρ c main_arg10 (by decide +kernel)]
  rfl
/-- The argument padded by zeros. -/
theorem p_v4 : W8 m ρ c (Proc.devRef .tc main_v4) = arr (widen 4096 384 (K m c).feat1) := by
  refine (Host.v4 (W7 m ρ c) (Host.c_2_0_6 (W6 m ρ c))).trans ?_
  rw [W7_args m ρ c main_arg1 (by decide +kernel)]
  rfl
/-- The argument padded by zeros. -/
theorem p_v5 : W10 m ρ c (Proc.devRef .tc main_v5) = arr (widen 384 256 (K m c).wfc1) := by
  refine (Host.v5 (W9 m ρ c) (Host.c_3_0_8 (W8 m ρ c))).trans ?_
  rw [W9_args m ρ c main_arg12 (by decide +kernel)]
  rfl
/-- The argument padded by zeros. -/
theorem p_v6 : W12 m ρ c (Proc.devRef .tc main_v6) = arr (widen 64 64 (K m c).feat2) := by
  refine (Host.v6 (W11 m ρ c) (Host.c_4_0_10 (W10 m ρ c))).trans ?_
  rw [W11_args m ρ c main_arg2 (by decide +kernel)]
  rfl
/-- The argument padded by zeros. -/
theorem p_v7 : W14 m ρ c (Proc.devRef .tc main_v7) = arr (widen 1024 64 (K m c).nei1) := by
  refine (Host.v7 (W13 m ρ c) (Host.c_5_0_12 (W12 m ρ c))).trans ?_
  rw [W13_args m ρ c main_arg9 (by decide +kernel)]
  rfl
/-- A buffer that nothing writes in between is carried unchanged. -/
theorem c4_v0 : W4 m ρ c (Proc.devRef .tc main_v0) = W2 m ρ c (Proc.devRef .tc main_v0) :=
  (W4_of m ρ c main_v0 (by decide +kernel)).trans ((W3_of m ρ c main_v0 (by decide +kernel)))
/-- The two padded feature matrices one above the other. -/
theorem p_v2 : W5 m ρ c (Proc.devRef .tc main_v2) = arr (fun (i : Fin 2048) (t : Fin 1920) =>
    if h : i.val < 1024 then widen 1024 1920 (K m c).feat0 ⟨i.val, h⟩ t
    else widen 1024 1920 (K m c).maskFeat ⟨i.val - 1024, by omega⟩ t) := by
  refine (Host.v2 (W4 m ρ c)).trans ?_
  rw [c4_v0 m ρ c, p_v0 m ρ c, p_v1 m ρ c]
  rfl
/-- A vector in its laid out form. -/
theorem p_v8 : row (W15 m ρ c (Proc.devRef .tc main_v8)) = (K m c).bfc0 := by
  refine (Host.v8 (W14 m ρ c)).trans ?_
  rw [W14_args m ρ c main_arg11 (by decide +kernel)]
  rfl
/-- What a call leaves, in terms of the buffers at its start. -/
theorem r_v9 : W16 m ρ c (Proc.devRef .tc main_v9) = arr (lin (mat (W15 m ρ c (Proc.devRef .tc main_v2))) (mat (W15 m ρ c (Proc.devRef .tc main_v3))) (row (W15 m ρ c (Proc.devRef .tc main_v8)))) :=
  (W16_arr m ρ c 3).trans (Val.arr0 (V15 m ρ) c)
/-- A buffer that nothing writes in between is carried unchanged. -/
theorem c15_v2 : W15 m ρ c (Proc.devRef .tc main_v2) = W5 m ρ c (Proc.devRef .tc main_v2) :=
  (W15_of m ρ c main_v2 (by decide +kernel)).trans ((W14_of m ρ c main_v2 (by decide +kernel)).trans ((W13_of m ρ c main_v2 (by decide +kernel)).trans ((W12_of m ρ c main_v2 (by decide +kernel)).trans ((W11_of m ρ c main_v2 (by decide +kernel)).trans ((W10_of m ρ c main_v2 (by decide +kernel)).trans ((W9_of m ρ c main_v2 (by decide +kernel)).trans ((W8_of m ρ c main_v2 (by decide +kernel)).trans ((W7_of m ρ c main_v2 (by decide +kernel)).trans ((W6_of m ρ c main_v2 (by decide +kernel)))))))))))
/-- A buffer that nothing writes in between is carried unchanged. -/
theorem c15_v3 : W15 m ρ c (Proc.devRef .tc main_v3) = W6 m ρ c (Proc.devRef .tc main_v3) :=
  (W15_of m ρ c main_v3 (by decide +kernel)).trans ((W14_of m ρ c main_v3 (by decide +kernel)).trans ((W13_of m ρ c main_v3 (by decide +kernel)).trans ((W12_of m ρ c main_v3 (by decide +kernel)).trans ((W11_of m ρ c main_v3 (by decide +kernel)).trans ((W10_of m ρ c main_v3 (by decide +kernel)).trans ((W9_of m ρ c main_v3 (by decide +kernel)).trans ((W8_of m ρ c main_v3 (by decide +kernel)).trans ((W7_of m ρ c main_v3 (by decide +kernel))))))))))
/-- The first linear layer on both. -/
theorem p_v9 : W16 m ρ c (Proc.devRef .tc main_v9) = arr (lin (fun (i : Fin 2048) (t : Fin 1920) =>
    if h : i.val < 1024 then widen 1024 1920 (K m c).feat0 ⟨i.val, h⟩ t
    else widen 1024 1920 (K m c).maskFeat ⟨i.val - 1024, by omega⟩ t) (widen 1920 256 (K m c).wfc0) (K m c).bfc0) := by
  rw [r_v9 m ρ c, c15_v2 m ρ c, p_v2 m ρ c, c15_v3 m ρ c, p_v3 m ρ c, p_v8 m ρ c]
  rfl
/-- The targets' features. -/
theorem p_v10 : W17 m ρ c (Proc.devRef .tc main_v10) = arr (K m c).tar := by
  refine (Host.v10 (W16 m ρ c)).trans ?_
  rw [p_v9 m ρ c]
  funext y
  refine lin_widen (by decide : 1902 ≤ 1920) _ (K m c).feat0 (K m c).wfc0 _ _ _ (y 0) (y 1) (fun t => ?_) rfl
  have h : (y 0).val < 1024 := (y 0).isLt
  refine (dif_pos (c := (y 0).val < 1024) h).trans (widen_in _ _ _ _ _ rfl rfl)
/-- The masked targets' features. -/
theorem p_v11 : W17 m ρ c (Proc.devRef .tc main_v11) = arr (K m c).mask := by
  refine (Host.v11 (W16 m ρ c)).trans ?_
  rw [p_v9 m ρ c]
  funext y
  refine lin_widen (by decide : 1902 ≤ 1920) _ (K m c).maskFeat (K m c).wfc0 _ _ _ (y 0) (y 1) (fun t => ?_) rfl
  refine (dif_neg (c := 1024 + (y 0).val < 1024) (by omega)).trans (widen_in _ _ _ _ _ (Nat.add_sub_cancel_left 1024 (y 0).val) rfl)
/-- A vector in its laid out form. -/
theorem p_v12 : row (W17 m ρ c (Proc.devRef .tc main_v12)) = (K m c).bfc1 := by
  refine (Host.v12 (W16 m ρ c)).trans ?_
  rw [W16_args m ρ c main_arg13 (by decide +kernel)]
  rfl
/-- What a call leaves, in terms of the buffers at its start. -/
theorem r_v13 : W18 m ρ c (Proc.devRef .tc main_v13) = arr (lin (mat (W17 m ρ c (Proc.devRef .tc main_v4))) (mat (W17 m ρ c (Proc.devRef .tc main_v5))) (row (W17 m ρ c (Proc.devRef .tc main_v12)))) :=
  (W18_arr m ρ c 3).trans (Val.arr1 (V17 m ρ) c)
/-- A buffer that nothing writes in between is carried unchanged. -/
theorem c17_v4 : W17 m ρ c (Proc.devRef .tc main_v4) = W8 m ρ c (Proc.devRef .tc main_v4) :=
  (W17_of m ρ c main_v4 (by decide +kernel)).trans ((W16_of m ρ c main_v4 (by decide +kernel)).trans ((W15_of m ρ c main_v4 (by decide +kernel)).trans ((W14_of m ρ c main_v4 (by decide +kernel)).trans ((W13_of m ρ c main_v4 (by decide +kernel)).trans ((W12_of m ρ c main_v4 (by decide +kernel)).trans ((W11_of m ρ c main_v4 (by decide +kernel)).trans ((W10_of m ρ c main_v4 (by decide +kernel)).trans ((W9_of m ρ c main_v4 (by decide +kernel))))))))))
/-- A buffer that nothing writes in between is carried unchanged. -/
theorem c17_v5 : W17 m ρ c (Proc.devRef .tc main_v5) = W10 m ρ c (Proc.devRef .tc main_v5) :=
  (W17_of m ρ c main_v5 (by decide +kernel)).trans ((W16_of m ρ c main_v5 (by decide +kernel)).trans ((W15_of m ρ c main_v5 (by decide +kernel)).trans ((W14_of m ρ c main_v5 (by decide +kernel)).trans ((W13_of m ρ c main_v5 (by decide +kernel)).trans ((W12_of m ρ c main_v5 (by decide +kernel)).trans ((W11_of m ρ c main_v5 (by decide +kernel))))))))
/-- The first neighbours' features. -/
theorem p_v13 : W18 m ρ c (Proc.devRef .tc main_v13) = arr (K m c).near0 := by
  rw [r_v13 m ρ c, c17_v4 m ρ c, p_v4 m ρ c, c17_v5 m ρ c, p_v5 m ρ c, p_v12 m ρ c]
  funext y
  exact lin_widen (by decide : 334 ≤ 384) _ (K m c).feat1 (K m c).wfc1 _ _ (y 0) (y 0) (y 1) (fun t => widen_in _ _ _ _ _ rfl rfl) rfl
/-- What a call leaves, in terms of the buffers at its start. -/
theorem r_v14 : W19 m ρ c (Proc.devRef .tc main_v14) = arr (agg (mat (W18 m ρ c (Proc.devRef .tc main_arg8))) (mat (W18 m ρ c (Proc.devRef .tc main_v13)))) :=
  (W19_arr m ρ c 2).trans (Val.arr2 (V18 m ρ) c)
/-- The mean over the first neighbours. -/
theorem p_v14 : W19 m ρ c (Proc.devRef .tc main_v14) = arr (K m c).agg0 := by
  rw [r_v14 m ρ c, W18_args m ρ c main_arg8 (by decide +kernel), p_v13 m ρ c]
  rfl
/-- A vector in its laid out form. -/
theorem p_v15 : row (W20 m ρ c (Proc.devRef .tc main_v15)) = (K m c).bfc2 := by
  refine (Host.v15 (W19 m ρ c)).trans ?_
  rw [W19_args m ρ c main_arg15 (by decide +kernel)]
  rfl
/-- What a call leaves, in terms of the buffers at its start. -/
theorem r_v16 : W21 m ρ c (Proc.devRef .tc main_v16) = arr (agg (mat (W20 m ρ c (Proc.devRef .tc main_v7))) (lin (mat (W20 m ρ c (Proc.devRef .tc main_v6))) (mat (W20 m ρ c (Proc.devRef .tc main_arg14))) (row (W20 m ρ c (Proc.devRef .tc main_v15))))) :=
  (W21_arr m ρ c 4).trans (Val.arr3 (V20 m ρ) c)
/-- A buffer that nothing writes in between is carried unchanged. -/
theorem c20_v7 : W20 m ρ c (Proc.devRef .tc main_v7) = W14 m ρ c (Proc.devRef .tc main_v7) :=
  (W20_of m ρ c main_v7 (by decide +kernel)).trans ((W19_of m ρ c main_v7 (by decide +kernel)).trans ((W18_of m ρ c main_v7 (by decide +kernel)).trans ((W17_of m ρ c main_v7 (by decide +kernel)).trans ((W16_of m ρ c main_v7 (by decide +kernel)).trans ((W15_of m ρ c main_v7 (by decide +kernel)))))))
/-- A buffer that nothing writes in between is carried unchanged. -/
theorem c20_v6 : W20 m ρ c (Proc.devRef .tc main_v6) = W12 m ρ c (Proc.devRef .tc main_v6) :=
  (W20_of m ρ c main_v6 (by decide +kernel)).trans ((W19_of m ρ c main_v6 (by decide +kernel)).trans ((W18_of m ρ c main_v6 (by decide +kernel)).trans ((W17_of m ρ c main_v6 (by decide +kernel)).trans ((W16_of m ρ c main_v6 (by decide +kernel)).trans ((W15_of m ρ c main_v6 (by decide +kernel)).trans ((W14_of m ρ c main_v6 (by decide +kernel)).trans ((W13_of m ρ c main_v6 (by decide +kernel)))))))))
/-- The mean over the second neighbours. -/
theorem p_v16 : W21 m ρ c (Proc.devRef .tc main_v16) = arr (K m c).agg1 := by
  rw [r_v16 m ρ c, c20_v7 m ρ c, p_v7 m ρ c, c20_v6 m ρ c, p_v6 m ρ c, W20_args m ρ c main_arg14 (by decide +kernel), p_v15 m ρ c]
  funext y
  refine agg_widen (by decide : 60 ≤ 64) (K m c).nei1 _ (K m c).near1 (y 0) (y 1) (fun t => ?_)
  refine congrArg (fun z => elu (z + _)) (Finset.sum_congr rfl fun s _ => congrArg (· * _) ?_)
  exact widen_in _ _ _ _ _ rfl rfl
/-- What a call leaves, in terms of the buffers at its start. -/
theorem r_v17_0 : W22 m ρ c (Proc.devRef .tc main_v17_0) = arr (view (mat (W21 m ρ c (Proc.devRef .tc main_v10))) (mat (W21 m ρ c (Proc.devRef .tc main_v14))) (mat (W21 m ρ c (Proc.devRef .tc main_arg16)))) :=
  (W22_arr m ρ c 6).trans (Val.arr4_0 (V21 m ρ) c)
/-- A buffer that nothing writes in between is carried unchanged. -/
theorem c21_v10 : W21 m ρ c (Proc.devRef .tc main_v10) = W17 m ρ c (Proc.devRef .tc main_v10) :=
  (W21_of m ρ c main_v10 (by decide +kernel)).trans ((W20_of m ρ c main_v10 (by decide +kernel)).trans ((W19_of m ρ c main_v10 (by decide +kernel)).trans ((W18_of m ρ c main_v10 (by decide +kernel)))))
/-- A buffer that nothing writes in between is carried unchanged. -/
theorem c21_v14 : W21 m ρ c (Proc.devRef .tc main_v14) = W19 m ρ c (Proc.devRef .tc main_v14) :=
  (W21_of m ρ c main_v14 (by decide +kernel)).trans ((W20_of m ρ c main_v14 (by decide +kernel)))
/-- A view. -/
theorem p_v17_0 : W22 m ρ c (Proc.devRef .tc main_v17_0) = arr (K m c).view0 := by
  rw [r_v17_0 m ρ c, c21_v10 m ρ c, p_v10 m ρ c, c21_v14 m ρ c, p_v14 m ρ c, W21_args m ρ c main_arg16 (by decide +kernel)]
  rfl
/-- What a call leaves, in terms of the buffers at its start. -/
theorem r_v17_1 : W22 m ρ c (Proc.devRef .tc main_v17_1) = arr (view (mat (W21 m ρ c (Proc.devRef .tc main_v10))) (mat (W21 m ρ c (Proc.devRef .tc main_v16))) (mat (W21 m ρ c (Proc.devRef .tc main_arg17)))) :=
  (W22_arr m ρ c 7).trans (Val.arr4_1 (V21 m ρ) c)
/-- A view. -/
theorem p_v17_1 : W22 m ρ c (Proc.devRef .tc main_v17_1) = arr (K m c).view1 := by
  rw [r_v17_1 m ρ c, c21_v10 m ρ c, p_v10 m ρ c, p_v16 m ρ c, W21_args m ρ c main_arg17 (by decide +kernel)]
  rfl
/-- What a call leaves, in terms of the buffers at its start. -/
theorem r_v17_2 : W22 m ρ c (Proc.devRef .tc main_v17_2) = arr (view (mat (W21 m ρ c (Proc.devRef .tc main_v11))) (mat (W21 m ρ c (Proc.devRef .tc main_v14))) (mat (W21 m ρ c (Proc.devRef .tc main_arg16)))) :=
  (W22_arr m ρ c 8).trans (Val.arr4_2 (V21 m ρ) c)
/-- A buffer that nothing writes in between is carried unchanged. -/
theorem c21_v11 : W21 m ρ c (Proc.devRef .tc main_v11) = W17 m ρ c (Proc.devRef .tc main_v11) :=
  (W21_of m ρ c main_v11 (by decide +kernel)).trans ((W20_of m ρ c main_v11 (by decide +kernel)).trans ((W19_of m ρ c main_v11 (by decide +kernel)).trans ((W18_of m ρ c main_v11 (by decide +kernel)))))
/-- A view. -/
theorem p_v17_2 : W22 m ρ c (Proc.devRef .tc main_v17_2) = arr (K m c).mask0 := by
  rw [r_v17_2 m ρ c, c21_v11 m ρ c, p_v11 m ρ c, c21_v14 m ρ c, p_v14 m ρ c, W21_args m ρ c main_arg16 (by decide +kernel)]
  rfl
/-- What a call leaves, in terms of the buffers at its start. -/
theorem r_v17_3 : W22 m ρ c (Proc.devRef .tc main_v17_3) = arr (view (mat (W21 m ρ c (Proc.devRef .tc main_v11))) (mat (W21 m ρ c (Proc.devRef .tc main_v16))) (mat (W21 m ρ c (Proc.devRef .tc main_arg17)))) :=
  (W22_arr m ρ c 9).trans (Val.arr4_3 (V21 m ρ) c)
/-- A view. -/
theorem p_v17_3 : W22 m ρ c (Proc.devRef .tc main_v17_3) = arr (K m c).mask1 := by
  rw [r_v17_3 m ρ c, c21_v11 m ρ c, p_v11 m ρ c, p_v16 m ρ c, W21_args m ρ c main_arg17 (by decide +kernel)]
  rfl

end Cert.KernelIdeal.Chain

end
-- ==== Proof.Region5.lean ====
/- What the coarse convolution's custom call leaves in its output array, from the arrays it reads. -/
module

public import proofs.«01_k».proof.Proof.Payloads
public import proofs.«01_k».proof.Proof.Gen.KernelIdeal.Frame.Region5
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index5 (t : Fin cfg5.N) (w : Fin cfg5.W) (a) : (cfg5.win w).index t a = 0 := by
  revert t w a; decide +kernel

/-- So each input's block is what its array holds. -/
theorem blk5_0 (c : Dev nD) (t : Fin cfg5.N) : iblk5 V c 0 t = V c (Pipeline.arrRef spec5 0) := by
  funext y; blk_ext [iblk5, index5 t 0]
/-- Input 1 is staged whole. -/
theorem blk5_1 (c : Dev nD) (t : Fin cfg5.N) : iblk5 V c 1 t = V c (Pipeline.arrRef spec5 1) := by
  funext y; blk_ext [iblk5, index5 t 1]
/-- Input 2 is staged whole. -/
theorem blk5_2 (c : Dev nD) (t : Fin cfg5.N) : iblk5 V c 2 t = V c (Pipeline.arrRef spec5 2) := by
  funext y; blk_ext [iblk5, index5 t 2]
/-- Input 3 is staged whole. -/
theorem blk5_3 (c : Dev nD) (t : Fin cfg5.N) : iblk5 V c 3 t = V c (Pipeline.arrRef spec5 3) := by
  funext y; blk_ext [iblk5, index5 t 3]
/-- Input 4 is staged whole. -/
theorem blk5_4 (c : Dev nD) (t : Fin cfg5.N) : iblk5 V c 4 t = V c (Pipeline.arrRef spec5 4) := by
  funext y; blk_ext [iblk5, index5 t 4]
/-- Input 5 is staged whole. -/
theorem blk5_5 (c : Dev nD) (t : Fin cfg5.N) : iblk5 V c 5 t = V c (Pipeline.arrRef spec5 5) := by
  funext y; blk_ext [iblk5, index5 t 5]
/-- Input 6 is staged whole. -/
theorem blk5_6 (c : Dev nD) (t : Fin cfg5.N) : iblk5 V c 6 t = V c (Pipeline.arrRef spec5 6) := by
  funext y; blk_ext [iblk5, index5 t 6]

set_option maxHeartbeats 1000000 in
/-- The coarse convolution. -/
theorem arr5 (c : Dev nD) : (dat5 V c).arrAt 7 cfg5.N = arr (gcn (adjMean (mat (V c (Pipeline.arrRef spec5 1))) (mat (V c (Pipeline.arrRef spec5 2)))) (mat (V c (Pipeline.arrRef spec5 0))) (mat (V c (Pipeline.arrRef spec5 3))) (row (V c (Pipeline.arrRef spec5 4))) (mat (V c (Pipeline.arrRef spec5 5))) (row (V c (Pipeline.arrRef spec5 6)))) := by
  refine (dat5 V c).arrAt_eq_of_after_last 7 t5_0 (by decide +kernel) _ fun y => ?_
  blk_simp
  rw [after5_7]
  frame_out
  idx_vars y
  refine (congrFun (congrFun (Pay.gcn5 _ _ _ _ _ _ _ ) _) _).trans ?_
  rw [blk5_0, blk5_1, blk5_2, blk5_3, blk5_4, blk5_5, blk5_6]
  rfl

end Cert.KernelIdeal.Val

end
-- ==== Proof.Region6.lean ====
/- What custom call 6, a fine convolution and its score, leaves in its output arrays, from the arrays it reads. -/
module

public import proofs.«01_k».proof.Proof.Payloads
public import proofs.«01_k».proof.Proof.Gen.KernelIdeal.Frame.Region6
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index6 (t : Fin cfg6.N) (w : Fin cfg6.W) (a) : (cfg6.win w).index t a = 0 := by
  revert t w a; decide +kernel

/-- So each input's block is what its array holds. -/
theorem blk6_0 (c : Dev nD) (t : Fin cfg6.N) : iblk6 V c 0 t = V c (Pipeline.arrRef spec6 0) := by
  funext y; blk_ext [iblk6, index6 t 0]
/-- Input 1 is staged whole. -/
theorem blk6_1 (c : Dev nD) (t : Fin cfg6.N) : iblk6 V c 1 t = V c (Pipeline.arrRef spec6 1) := by
  funext y; blk_ext [iblk6, index6 t 1]
/-- Input 2 is staged whole. -/
theorem blk6_2 (c : Dev nD) (t : Fin cfg6.N) : iblk6 V c 2 t = V c (Pipeline.arrRef spec6 2) := by
  funext y; blk_ext [iblk6, index6 t 2]
/-- Input 3 is staged whole. -/
theorem blk6_3 (c : Dev nD) (t : Fin cfg6.N) : iblk6 V c 3 t = V c (Pipeline.arrRef spec6 3) := by
  funext y; blk_ext [iblk6, index6 t 3]
/-- Input 4 is staged whole. -/
theorem blk6_4 (c : Dev nD) (t : Fin cfg6.N) : iblk6 V c 4 t = V c (Pipeline.arrRef spec6 4) := by
  funext y; blk_ext [iblk6, index6 t 4]
/-- Input 5 is staged whole. -/
theorem blk6_5 (c : Dev nD) (t : Fin cfg6.N) : iblk6 V c 5 t = V c (Pipeline.arrRef spec6 5) := by
  funext y; blk_ext [iblk6, index6 t 5]
/-- Input 6 is staged whole. -/
theorem blk6_6 (c : Dev nD) (t : Fin cfg6.N) : iblk6 V c 6 t = V c (Pipeline.arrRef spec6 6) := by
  funext y; blk_ext [iblk6, index6 t 6]
/-- Input 7 is staged whole. -/
theorem blk6_7 (c : Dev nD) (t : Fin cfg6.N) : iblk6 V c 7 t = V c (Pipeline.arrRef spec6 7) := by
  funext y; blk_ext [iblk6, index6 t 7]
/-- Input 8 is staged whole. -/
theorem blk6_8 (c : Dev nD) (t : Fin cfg6.N) : iblk6 V c 8 t = V c (Pipeline.arrRef spec6 8) := by
  funext y; blk_ext [iblk6, index6 t 8]

set_option maxHeartbeats 1000000 in
/-- The features, their rows normalized. -/
theorem arr6 (c : Dev nD) : (dat6 V c).arrAt 9 cfg6.N = arr (normalize (gcn (mat (V c (Pipeline.arrRef spec6 1))) (mat (V c (Pipeline.arrRef spec6 0))) (mat (V c (Pipeline.arrRef spec6 2))) (row (V c (Pipeline.arrRef spec6 3))) (mat (V c (Pipeline.arrRef spec6 4))) (row (V c (Pipeline.arrRef spec6 5))))) := by
  refine (dat6 V c).arrAt_eq_of_after_last 9 t6_0 (by decide +kernel) _ fun y => ?_
  blk_simp
  rw [after6_9]
  frame_out
  idx_vars y
  refine (congrFun (congrFun (Pay.gcn6 _ _ _ _ _ _ ) _) _).trans ?_
  rw [blk6_0, blk6_1, blk6_2, blk6_3, blk6_4, blk6_5]
  rfl

set_option maxHeartbeats 1000000 in
/-- The score. -/
theorem sc6 (c : Dev nD) : (dat6 V c).arrAt 10 cfg6.N = arr (fun _ _ => score (normalize (gcn (mat (V c (Pipeline.arrRef spec6 1))) (mat (V c (Pipeline.arrRef spec6 0))) (mat (V c (Pipeline.arrRef spec6 2))) (row (V c (Pipeline.arrRef spec6 3))) (mat (V c (Pipeline.arrRef spec6 4))) (row (V c (Pipeline.arrRef spec6 5))))) (mat (V c (Pipeline.arrRef spec6 6))) (row (V c (Pipeline.arrRef spec6 7))) (col (V c (Pipeline.arrRef spec6 8)))) := by
  refine (dat6 V c).arrAt_eq_of_after_last 10 t6_0 (by decide +kernel) _ fun y => ?_
  blk_simp
  rw [after6_10]
  frame_out
  idx_vars y
  refine (Pay.score6 _ _ _ _ _ _ _ _ _ _ _ ).trans ?_
  rw [blk6_0, blk6_1, blk6_2, blk6_3, blk6_4, blk6_5, blk6_6, blk6_7, blk6_8]

end Cert.KernelIdeal.Val

end
-- ==== Proof.Region7.lean ====
/- What custom call 7, a fine convolution and its score, leaves in its output arrays, from the arrays it reads. -/
module

public import proofs.«01_k».proof.Proof.Payloads
public import proofs.«01_k».proof.Proof.Gen.KernelIdeal.Frame.Region7
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index7 (t : Fin cfg7.N) (w : Fin cfg7.W) (a) : (cfg7.win w).index t a = 0 := by
  revert t w a; decide +kernel

/-- So each input's block is what its array holds. -/
theorem blk7_0 (c : Dev nD) (t : Fin cfg7.N) : iblk7 V c 0 t = V c (Pipeline.arrRef spec7 0) := by
  funext y; blk_ext [iblk7, index7 t 0]
/-- Input 1 is staged whole. -/
theorem blk7_1 (c : Dev nD) (t : Fin cfg7.N) : iblk7 V c 1 t = V c (Pipeline.arrRef spec7 1) := by
  funext y; blk_ext [iblk7, index7 t 1]
/-- Input 2 is staged whole. -/
theorem blk7_2 (c : Dev nD) (t : Fin cfg7.N) : iblk7 V c 2 t = V c (Pipeline.arrRef spec7 2) := by
  funext y; blk_ext [iblk7, index7 t 2]
/-- Input 3 is staged whole. -/
theorem blk7_3 (c : Dev nD) (t : Fin cfg7.N) : iblk7 V c 3 t = V c (Pipeline.arrRef spec7 3) := by
  funext y; blk_ext [iblk7, index7 t 3]
/-- Input 4 is staged whole. -/
theorem blk7_4 (c : Dev nD) (t : Fin cfg7.N) : iblk7 V c 4 t = V c (Pipeline.arrRef spec7 4) := by
  funext y; blk_ext [iblk7, index7 t 4]
/-- Input 5 is staged whole. -/
theorem blk7_5 (c : Dev nD) (t : Fin cfg7.N) : iblk7 V c 5 t = V c (Pipeline.arrRef spec7 5) := by
  funext y; blk_ext [iblk7, index7 t 5]
/-- Input 6 is staged whole. -/
theorem blk7_6 (c : Dev nD) (t : Fin cfg7.N) : iblk7 V c 6 t = V c (Pipeline.arrRef spec7 6) := by
  funext y; blk_ext [iblk7, index7 t 6]
/-- Input 7 is staged whole. -/
theorem blk7_7 (c : Dev nD) (t : Fin cfg7.N) : iblk7 V c 7 t = V c (Pipeline.arrRef spec7 7) := by
  funext y; blk_ext [iblk7, index7 t 7]
/-- Input 8 is staged whole. -/
theorem blk7_8 (c : Dev nD) (t : Fin cfg7.N) : iblk7 V c 8 t = V c (Pipeline.arrRef spec7 8) := by
  funext y; blk_ext [iblk7, index7 t 8]

set_option maxHeartbeats 1000000 in
/-- The features, their rows normalized. -/
theorem arr7 (c : Dev nD) : (dat7 V c).arrAt 9 cfg7.N = arr (normalize (gcn (mat (V c (Pipeline.arrRef spec7 1))) (mat (V c (Pipeline.arrRef spec7 0))) (mat (V c (Pipeline.arrRef spec7 2))) (row (V c (Pipeline.arrRef spec7 3))) (mat (V c (Pipeline.arrRef spec7 4))) (row (V c (Pipeline.arrRef spec7 5))))) := by
  refine (dat7 V c).arrAt_eq_of_after_last 9 t7_0 (by decide +kernel) _ fun y => ?_
  blk_simp
  rw [after7_9]
  frame_out
  idx_vars y
  refine (congrFun (congrFun (Pay.gcn7 _ _ _ _ _ _ ) _) _).trans ?_
  rw [blk7_0, blk7_1, blk7_2, blk7_3, blk7_4, blk7_5]
  rfl

set_option maxHeartbeats 1000000 in
/-- The score. -/
theorem sc7 (c : Dev nD) : (dat7 V c).arrAt 10 cfg7.N = arr (fun _ _ => score (normalize (gcn (mat (V c (Pipeline.arrRef spec7 1))) (mat (V c (Pipeline.arrRef spec7 0))) (mat (V c (Pipeline.arrRef spec7 2))) (row (V c (Pipeline.arrRef spec7 3))) (mat (V c (Pipeline.arrRef spec7 4))) (row (V c (Pipeline.arrRef spec7 5))))) (mat (V c (Pipeline.arrRef spec7 6))) (row (V c (Pipeline.arrRef spec7 7))) (col (V c (Pipeline.arrRef spec7 8)))) := by
  refine (dat7 V c).arrAt_eq_of_after_last 10 t7_0 (by decide +kernel) _ fun y => ?_
  blk_simp
  rw [after7_10]
  frame_out
  idx_vars y
  refine (Pay.score7 _ _ _ _ _ _ _ _ _ _ _ ).trans ?_
  rw [blk7_0, blk7_1, blk7_2, blk7_3, blk7_4, blk7_5, blk7_6, blk7_7, blk7_8]

end Cert.KernelIdeal.Val

end
-- ==== Proof.Region8.lean ====
/- What custom call 8, a fine convolution and its score, leaves in its output arrays, from the arrays it reads. -/
module

public import proofs.«01_k».proof.Proof.Payloads
public import proofs.«01_k».proof.Proof.Gen.KernelIdeal.Frame.Region8
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index8 (t : Fin cfg8.N) (w : Fin cfg8.W) (a) : (cfg8.win w).index t a = 0 := by
  revert t w a; decide +kernel

/-- So each input's block is what its array holds. -/
theorem blk8_0 (c : Dev nD) (t : Fin cfg8.N) : iblk8 V c 0 t = V c (Pipeline.arrRef spec8 0) := by
  funext y; blk_ext [iblk8, index8 t 0]
/-- Input 1 is staged whole. -/
theorem blk8_1 (c : Dev nD) (t : Fin cfg8.N) : iblk8 V c 1 t = V c (Pipeline.arrRef spec8 1) := by
  funext y; blk_ext [iblk8, index8 t 1]
/-- Input 2 is staged whole. -/
theorem blk8_2 (c : Dev nD) (t : Fin cfg8.N) : iblk8 V c 2 t = V c (Pipeline.arrRef spec8 2) := by
  funext y; blk_ext [iblk8, index8 t 2]
/-- Input 3 is staged whole. -/
theorem blk8_3 (c : Dev nD) (t : Fin cfg8.N) : iblk8 V c 3 t = V c (Pipeline.arrRef spec8 3) := by
  funext y; blk_ext [iblk8, index8 t 3]
/-- Input 4 is staged whole. -/
theorem blk8_4 (c : Dev nD) (t : Fin cfg8.N) : iblk8 V c 4 t = V c (Pipeline.arrRef spec8 4) := by
  funext y; blk_ext [iblk8, index8 t 4]
/-- Input 5 is staged whole. -/
theorem blk8_5 (c : Dev nD) (t : Fin cfg8.N) : iblk8 V c 5 t = V c (Pipeline.arrRef spec8 5) := by
  funext y; blk_ext [iblk8, index8 t 5]
/-- Input 6 is staged whole. -/
theorem blk8_6 (c : Dev nD) (t : Fin cfg8.N) : iblk8 V c 6 t = V c (Pipeline.arrRef spec8 6) := by
  funext y; blk_ext [iblk8, index8 t 6]
/-- Input 7 is staged whole. -/
theorem blk8_7 (c : Dev nD) (t : Fin cfg8.N) : iblk8 V c 7 t = V c (Pipeline.arrRef spec8 7) := by
  funext y; blk_ext [iblk8, index8 t 7]
/-- Input 8 is staged whole. -/
theorem blk8_8 (c : Dev nD) (t : Fin cfg8.N) : iblk8 V c 8 t = V c (Pipeline.arrRef spec8 8) := by
  funext y; blk_ext [iblk8, index8 t 8]

set_option maxHeartbeats 1000000 in
/-- The features, their rows normalized. -/
theorem arr8 (c : Dev nD) : (dat8 V c).arrAt 9 cfg8.N = arr (normalize (gcn (mat (V c (Pipeline.arrRef spec8 1))) (mat (V c (Pipeline.arrRef spec8 0))) (mat (V c (Pipeline.arrRef spec8 2))) (row (V c (Pipeline.arrRef spec8 3))) (mat (V c (Pipeline.arrRef spec8 4))) (row (V c (Pipeline.arrRef spec8 5))))) := by
  refine (dat8 V c).arrAt_eq_of_after_last 9 t8_0 (by decide +kernel) _ fun y => ?_
  blk_simp
  rw [after8_9]
  frame_out
  idx_vars y
  refine (congrFun (congrFun (Pay.gcn8 _ _ _ _ _ _ ) _) _).trans ?_
  rw [blk8_0, blk8_1, blk8_2, blk8_3, blk8_4, blk8_5]
  rfl

set_option maxHeartbeats 1000000 in
/-- The score. -/
theorem sc8 (c : Dev nD) : (dat8 V c).arrAt 10 cfg8.N = arr (fun _ _ => score (normalize (gcn (mat (V c (Pipeline.arrRef spec8 1))) (mat (V c (Pipeline.arrRef spec8 0))) (mat (V c (Pipeline.arrRef spec8 2))) (row (V c (Pipeline.arrRef spec8 3))) (mat (V c (Pipeline.arrRef spec8 4))) (row (V c (Pipeline.arrRef spec8 5))))) (mat (V c (Pipeline.arrRef spec8 6))) (row (V c (Pipeline.arrRef spec8 7))) (col (V c (Pipeline.arrRef spec8 8)))) := by
  refine (dat8 V c).arrAt_eq_of_after_last 10 t8_0 (by decide +kernel) _ fun y => ?_
  blk_simp
  rw [after8_10]
  frame_out
  idx_vars y
  refine (Pay.score8 _ _ _ _ _ _ _ _ _ _ _ ).trans ?_
  rw [blk8_0, blk8_1, blk8_2, blk8_3, blk8_4, blk8_5, blk8_6, blk8_7, blk8_8]

end Cert.KernelIdeal.Val

end
-- ==== Proof.Region9.lean ====
/- What custom call 9, a fine convolution and its score, leaves in its output arrays, from the arrays it reads. -/
module

public import proofs.«01_k».proof.Proof.Payloads
public import proofs.«01_k».proof.Proof.Gen.KernelIdeal.Frame.Region9
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index9 (t : Fin cfg9.N) (w : Fin cfg9.W) (a) : (cfg9.win w).index t a = 0 := by
  revert t w a; decide +kernel

/-- So each input's block is what its array holds. -/
theorem blk9_0 (c : Dev nD) (t : Fin cfg9.N) : iblk9 V c 0 t = V c (Pipeline.arrRef spec9 0) := by
  funext y; blk_ext [iblk9, index9 t 0]
/-- Input 1 is staged whole. -/
theorem blk9_1 (c : Dev nD) (t : Fin cfg9.N) : iblk9 V c 1 t = V c (Pipeline.arrRef spec9 1) := by
  funext y; blk_ext [iblk9, index9 t 1]
/-- Input 2 is staged whole. -/
theorem blk9_2 (c : Dev nD) (t : Fin cfg9.N) : iblk9 V c 2 t = V c (Pipeline.arrRef spec9 2) := by
  funext y; blk_ext [iblk9, index9 t 2]
/-- Input 3 is staged whole. -/
theorem blk9_3 (c : Dev nD) (t : Fin cfg9.N) : iblk9 V c 3 t = V c (Pipeline.arrRef spec9 3) := by
  funext y; blk_ext [iblk9, index9 t 3]
/-- Input 4 is staged whole. -/
theorem blk9_4 (c : Dev nD) (t : Fin cfg9.N) : iblk9 V c 4 t = V c (Pipeline.arrRef spec9 4) := by
  funext y; blk_ext [iblk9, index9 t 4]
/-- Input 5 is staged whole. -/
theorem blk9_5 (c : Dev nD) (t : Fin cfg9.N) : iblk9 V c 5 t = V c (Pipeline.arrRef spec9 5) := by
  funext y; blk_ext [iblk9, index9 t 5]
/-- Input 6 is staged whole. -/
theorem blk9_6 (c : Dev nD) (t : Fin cfg9.N) : iblk9 V c 6 t = V c (Pipeline.arrRef spec9 6) := by
  funext y; blk_ext [iblk9, index9 t 6]
/-- Input 7 is staged whole. -/
theorem blk9_7 (c : Dev nD) (t : Fin cfg9.N) : iblk9 V c 7 t = V c (Pipeline.arrRef spec9 7) := by
  funext y; blk_ext [iblk9, index9 t 7]
/-- Input 8 is staged whole. -/
theorem blk9_8 (c : Dev nD) (t : Fin cfg9.N) : iblk9 V c 8 t = V c (Pipeline.arrRef spec9 8) := by
  funext y; blk_ext [iblk9, index9 t 8]

set_option maxHeartbeats 1000000 in
/-- The features, their rows normalized. -/
theorem arr9 (c : Dev nD) : (dat9 V c).arrAt 9 cfg9.N = arr (normalize (gcn (mat (V c (Pipeline.arrRef spec9 1))) (mat (V c (Pipeline.arrRef spec9 0))) (mat (V c (Pipeline.arrRef spec9 2))) (row (V c (Pipeline.arrRef spec9 3))) (mat (V c (Pipeline.arrRef spec9 4))) (row (V c (Pipeline.arrRef spec9 5))))) := by
  refine (dat9 V c).arrAt_eq_of_after_last 9 t9_0 (by decide +kernel) _ fun y => ?_
  blk_simp
  rw [after9_9]
  frame_out
  idx_vars y
  refine (congrFun (congrFun (Pay.gcn9 _ _ _ _ _ _ ) _) _).trans ?_
  rw [blk9_0, blk9_1, blk9_2, blk9_3, blk9_4, blk9_5]
  rfl

set_option maxHeartbeats 1000000 in
/-- The score. -/
theorem sc9 (c : Dev nD) : (dat9 V c).arrAt 10 cfg9.N = arr (fun _ _ => score (normalize (gcn (mat (V c (Pipeline.arrRef spec9 1))) (mat (V c (Pipeline.arrRef spec9 0))) (mat (V c (Pipeline.arrRef spec9 2))) (row (V c (Pipeline.arrRef spec9 3))) (mat (V c (Pipeline.arrRef spec9 4))) (row (V c (Pipeline.arrRef spec9 5))))) (mat (V c (Pipeline.arrRef spec9 6))) (row (V c (Pipeline.arrRef spec9 7))) (col (V c (Pipeline.arrRef spec9 8)))) := by
  refine (dat9 V c).arrAt_eq_of_after_last 10 t9_0 (by decide +kernel) _ fun y => ?_
  blk_simp
  rw [after9_10]
  frame_out
  idx_vars y
  refine (Pay.score9 _ _ _ _ _ _ _ _ _ _ _ ).trans ?_
  rw [blk9_0, blk9_1, blk9_2, blk9_3, blk9_4, blk9_5, blk9_6, blk9_7, blk9_8]

end Cert.KernelIdeal.Val

end
-- ==== Proof.Region10.lean ====
/- What the projections' custom call leaves in its output arrays, from the arrays it reads. -/
module

public import proofs.«01_k».proof.Proof.Payloads
public import proofs.«01_k».proof.Proof.Gen.KernelIdeal.Frame.Region10
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

variable (V : (c : Dev nD) → (b : Ref sig .tc) → Buf (Elt Ideal) ((c : Thread nD τ).loc b))

/-- Each window's block is its whole array. -/
theorem index10 (t : Fin cfg10.N) (w : Fin cfg10.W) (a) : (cfg10.win w).index t a = 0 := by
  revert t w a; decide +kernel

/-- So each input's block is what its array holds. -/
theorem blk10_0 (c : Dev nD) (t : Fin cfg10.N) : iblk10 V c 0 t = V c (Pipeline.arrRef spec10 0) := by
  funext y; blk_ext [iblk10, index10 t 0]
/-- Input 1 is staged whole. -/
theorem blk10_1 (c : Dev nD) (t : Fin cfg10.N) : iblk10 V c 1 t = V c (Pipeline.arrRef spec10 1) := by
  funext y; blk_ext [iblk10, index10 t 1]
/-- Input 2 is staged whole. -/
theorem blk10_2 (c : Dev nD) (t : Fin cfg10.N) : iblk10 V c 2 t = V c (Pipeline.arrRef spec10 2) := by
  funext y; blk_ext [iblk10, index10 t 2]
/-- Input 3 is staged whole. -/
theorem blk10_3 (c : Dev nD) (t : Fin cfg10.N) : iblk10 V c 3 t = V c (Pipeline.arrRef spec10 3) := by
  funext y; blk_ext [iblk10, index10 t 3]
/-- Input 4 is staged whole. -/
theorem blk10_4 (c : Dev nD) (t : Fin cfg10.N) : iblk10 V c 4 t = V c (Pipeline.arrRef spec10 4) := by
  funext y; blk_ext [iblk10, index10 t 4]
/-- Input 5 is staged whole. -/
theorem blk10_5 (c : Dev nD) (t : Fin cfg10.N) : iblk10 V c 5 t = V c (Pipeline.arrRef spec10 5) := by
  funext y; blk_ext [iblk10, index10 t 5]
/-- Input 6 is staged whole. -/
theorem blk10_6 (c : Dev nD) (t : Fin cfg10.N) : iblk10 V c 6 t = V c (Pipeline.arrRef spec10 6) := by
  funext y; blk_ext [iblk10, index10 t 6]
/-- Input 7 is staged whole. -/
theorem blk10_7 (c : Dev nD) (t : Fin cfg10.N) : iblk10 V c 7 t = V c (Pipeline.arrRef spec10 7) := by
  funext y; blk_ext [iblk10, index10 t 7]
/-- Input 8 is staged whole. -/
theorem blk10_8 (c : Dev nD) (t : Fin cfg10.N) : iblk10 V c 8 t = V c (Pipeline.arrRef spec10 8) := by
  funext y; blk_ext [iblk10, index10 t 8]
/-- Input 9 is staged whole. -/
theorem blk10_9 (c : Dev nD) (t : Fin cfg10.N) : iblk10 V c 9 t = V c (Pipeline.arrRef spec10 9) := by
  funext y; blk_ext [iblk10, index10 t 9]

set_option maxHeartbeats 1000000 in
/-- The fine projection. -/
theorem zf10 (c : Dev nD) : (dat10 V c).arrAt 10 cfg10.N = arr (proj (blend (row (V c (Pipeline.arrRef spec10 5))) (mat (V c (Pipeline.arrRef spec10 1))) (mat (V c (Pipeline.arrRef spec10 2))) (mat (V c (Pipeline.arrRef spec10 3))) (mat (V c (Pipeline.arrRef spec10 4)))) (mat (V c (Pipeline.arrRef spec10 6))) (row (V c (Pipeline.arrRef spec10 7)))) := by
  refine (dat10 V c).arrAt_eq_of_after_last 10 t10_0 (by decide +kernel) _ fun y => ?_
  blk_simp
  rw [after10_10]
  unfold_out out10_10
  frame_out
  idx_vars y
  refine (congrFun (congrFun (Pay.fine10 _ _ _ _ _ _ _ ) _) _).trans ?_
  rw [blk10_1, blk10_2, blk10_3, blk10_4, blk10_5, blk10_6, blk10_7]
  rfl

set_option maxHeartbeats 1000000 in
/-- The coarse projection. -/
theorem zc10 (c : Dev nD) : (dat10 V c).arrAt 11 cfg10.N = arr (proj (mat (V c (Pipeline.arrRef spec10 0))) (mat (V c (Pipeline.arrRef spec10 6))) (row (V c (Pipeline.arrRef spec10 7)))) := by
  refine (dat10 V c).arrAt_eq_of_after_last 11 t10_0 (by decide +kernel) _ fun y => ?_
  blk_simp
  rw [after10_11]
  unfold_out out10_11
  frame_out
  idx_vars y
  refine (congrFun (congrFun (Pay.coarse10 _ _ _ ) _) _).trans ?_
  rw [blk10_0, blk10_6, blk10_7]
  rfl

set_option maxHeartbeats 1000000 in
/-- The row half of the pair layer. -/
theorem left10 (c : Dev nD) : (dat10 V c).arrAt 12 cfg10.N = arr (mm (proj (blend (row (V c (Pipeline.arrRef spec10 5))) (mat (V c (Pipeline.arrRef spec10 1))) (mat (V c (Pipeline.arrRef spec10 2))) (mat (V c (Pipeline.arrRef spec10 3))) (mat (V c (Pipeline.arrRef spec10 4)))) (mat (V c (Pipeline.arrRef spec10 6))) (row (V c (Pipeline.arrRef spec10 7)))) (mat (V c (Pipeline.arrRef spec10 8)))) := by
  refine (dat10 V c).arrAt_eq_of_after_last 12 t10_0 (by decide +kernel) _ fun y => ?_
  blk_simp
  rw [after10_12]
  unfold_out out10_12
  frame_out
  idx_vars y
  refine (congrFun (congrFun ((Pay.left10 _ _ _).trans (congrArg (fun z => mm z _) (Pay.fine10 _ _ _ _ _ _ _))) _) _).trans ?_
  rw [blk10_1, blk10_2, blk10_3, blk10_4, blk10_5, blk10_6, blk10_7, blk10_8]
  rfl

set_option maxHeartbeats 1000000 in
/-- The column half, transposed. -/
theorem right10 (c : Dev nD) : (dat10 V c).arrAt 13 cfg10.N = arr (fun k j => mm (proj (mat (V c (Pipeline.arrRef spec10 0))) (mat (V c (Pipeline.arrRef spec10 6))) (row (V c (Pipeline.arrRef spec10 7)))) (mat (V c (Pipeline.arrRef spec10 8))) j k + (row (V c (Pipeline.arrRef spec10 9))) k) := by
  refine (dat10 V c).arrAt_eq_of_after_last 13 t10_0 (by decide +kernel) _ fun y => ?_
  blk_simp
  rw [after10_13]
  unfold_out out10_13
  frame_out
  idx_vars y
  refine (congrFun (congrFun (Pay.right10 _ _ _ _ _ ) _) _).trans ?_
  rw [blk10_0, blk10_6, blk10_7, blk10_8, blk10_9]
  rfl

end Cert.KernelIdeal.Val

end
-- ==== Proof.Region11.lean ====
/- What the pair stage's custom call leaves in its two output arrays, from the arrays it reads. -/
module

public import proofs.«01_k».proof.Proof.Payloads
public import proofs.«01_k».proof.Proof.Gen.KernelIdeal.Frame.Region11
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Cert.Spec

set_option maxHeartbeats 2000000 in
/-- The weighted sums of a block of rows. -/
theorem den11 (i : grid11.Coords) (x0 : Vec Ideal S128x64 .f32) (x1 : Vec Ideal S1024x64 .f32) (x2 : Vec Ideal S128x16 .f32)
    (x3 : Vec Ideal S16x1024 .f32) (x4 : Vec Ideal S1x16 .f32) (x5 : Vec Ideal S1x1 .f32) (p q : Fin 1) (r : Fin 128) :
    out11_6 i x0 x1 x2 x3 x4 x5 (ix3 p q r) = ∑ j, Ideal.exp ((∑ t, x0 (ix2 r t) * x1 (ix2 j t)) * ((2 : ℝ) : EReal))
      * Ideal.logistic ((∑ k, Ideal.tanh (x2 (ix2 r k) + x3 (ix2 k j)) * x4 (ix2 0 k)) + x5 (ix2 0 0)) := by
  frame_out
  pointwise [k11_pay1, k11_pay3, k11_pay4, k11_pay5, k11_pay6, k11_pay7, k11_pay8, k11_pay9, k11_pay10, k11_pay11, k11_pay12,
    k11_pay13, k11_pay14, k11_pay15, k11_pay16, k11_pay17]
  rw [two_lit]
  refine Finset.sum_congr rfl fun j _ => ?_
  congr 2
  refine (chain16 (x5 (ix2 0 0)) fun k => x4 (ix2 0 k) * Ideal.tanh (x2 (ix2 r k) + x3 (ix2 k j))).trans ?_
  exact congrArg (· + x5 (ix2 0 0)) (Finset.sum_congr rfl fun k _ => mul_comm _ _)

/-- A row's place in the array as a word. -/
theorem word11 (r i n : ℕ) (hr : r < 128) (hi : i < 8) (hn : n < 1024) :
    IntOp.cmpi .eq (BitVec.ofNat 32 n) (IntOp.addi (BitVec.ofNat 32 r) (Scalar.muli (BitVec.ofNat 32 i) 128#32))
      = if n = 128 * i + r then 1#1 else 0#1 := by
  have e : IntOp.addi (BitVec.ofNat 32 r) (Scalar.muli (BitVec.ofNat 32 i) 128#32) = BitVec.ofNat 32 (128 * i + r) := by
    apply BitVec.eq_of_toNat_eq
    simp [IntOp.addi, Scalar.muli, IntOp.muli]
    omega
  rw [e]
  split
  · rename_i h; rw [h]; simp [IntOp.cmpi]
  · rename_i h
    have : BitVec.ofNat 32 n ≠ BitVec.ofNat 32 (128 * i + r) := fun h' => h (by
      have := congrArg BitVec.toNat h'
      simp at this; omega)
    have h2 : (BitVec.ofNat 32 n == BitVec.ofNat 32 (128 * i + r)) = false := beq_false_of_ne this
    show BitVec.ofBool (BitVec.ofNat 32 n == BitVec.ofNat 32 (128 * i + r)) = 0#1
    rw [h2]; rfl

set_option maxHeartbeats 2000000 in
/-- The rows' own logits. -/
theorem dia11 (i : grid11.Coords) (x0 : Vec Ideal S128x64 .f32) (x1 : Vec Ideal S1024x64 .f32) (x2 : Vec Ideal S128x16 .f32)
    (x3 : Vec Ideal S16x1024 .f32) (x4 : Vec Ideal S1x16 .f32) (x5 : Vec Ideal S1x1 .f32) (p q : Fin 1) (r : Fin 128)
    (n : Fin 1024) (hn : n.val = 128 * (i 0).val + r.val) :
    out11_7 i x0 x1 x2 x3 x4 x5 (ix3 p q r) = (∑ t, x0 (ix2 r t) * x1 (ix2 n t)) * ((2 : ℝ) : EReal) := by
  frame_out
  pointwise [k11_pay2, k11_pay3, k11_pay15]
  rw [two_lit]
  have hi : (i 0).val < 8 := (i 0).isLt
  rw [Finset.sum_eq_single n]
  · rw [word11 _ _ _ r.isLt hi n.isLt, if_pos hn]; rfl
  · intro b _ hb
    rw [word11 _ _ _ r.isLt hi b.isLt, if_neg fun h => hb (Fin.ext (h.trans hn.symm))]; rfl
  · intro h; exact absurd (Finset.mem_univ _) h

variable (V : (c : Dev nD) → (b : Ref sig .tc) → Buf (Elt Ideal) ((c : Thread nD τ).loc b))

/-- Where each window's block stands. -/
theorem index11 (t : Fin cfg11.N) : win11_0.index t = ![t.val, 0] ∧ win11_1.index t = ![0, 0] ∧ win11_2.index t = ![t.val, 0]
    ∧ win11_3.index t = ![0, 0] ∧ win11_4.index t = ![0, 0] ∧ win11_5.index t = ![0, 0] ∧ win11_6.index t = ![t.val, 0, 0]
    ∧ win11_7.index t = ![t.val, 0, 0] ∧ ((grid11.coords t) 0).val = t.val := by
  revert t; decide +kernel

/-- The row an element of the outputs' arrays belongs to. -/
def rowOf (y : (⟨3, ![8, 1, 128]⟩ : Shape).Idx) : Fin 1024 :=
  ⟨128 * (y 0).val + (y 2).val, by have h0 : (y 0).val < 8 := (y 0).isLt; have h2 : (y 2).val < 128 := (y 2).isLt; omega⟩

/-- A block of an input that moves with the grid is the rows of its array from the point's first. -/
theorem blk11_0 (c : Dev nD) (t : Fin cfg11.N) (r : Fin 128) (k : Fin 64) (n : Fin 1024) (hn : n.val = 128 * t.val + r.val) :
    iblk11 V c 0 t (ix2 r k) = V c (Pipeline.arrRef spec11 0) (ix2 n k) := by
  blk_ext [iblk11, index11 t]
/-- The same of the rows' halves. -/
theorem blk11_2 (c : Dev nD) (t : Fin cfg11.N) (r : Fin 128) (k : Fin 16) (n : Fin 1024) (hn : n.val = 128 * t.val + r.val) :
    iblk11 V c 2 t (ix2 r k) = V c (Pipeline.arrRef spec11 2) (ix2 n k) := by
  blk_ext [iblk11, index11 t]
/-- A block of any other is the whole array. -/
theorem blk11_1 (c : Dev nD) (t : Fin cfg11.N) : iblk11 V c 1 t = V c (Pipeline.arrRef spec11 1) := by
  funext y; blk_ext [iblk11, index11 t]
/-- Input 3 is staged whole. -/
theorem blk11_3 (c : Dev nD) (t : Fin cfg11.N) : iblk11 V c 3 t = V c (Pipeline.arrRef spec11 3) := by
  funext y; blk_ext [iblk11, index11 t]
/-- Input 4 is staged whole. -/
theorem blk11_4 (c : Dev nD) (t : Fin cfg11.N) : iblk11 V c 4 t = V c (Pipeline.arrRef spec11 4) := by
  funext y; blk_ext [iblk11, index11 t]
/-- Input 5 is staged whole. -/
theorem blk11_5 (c : Dev nD) (t : Fin cfg11.N) : iblk11 V c 5 t = V c (Pipeline.arrRef spec11 5) := by
  funext y; blk_ext [iblk11, index11 t]

/-- The row of an element of a block of the outputs. -/
theorem rowOf_emb6 (t : Fin cfg11.N) (p q : Fin 1) (r : Fin 128) :
    (rowOf (((cfg11.win 6).blk t).view.emb (ix3 p q r))).val = 128 * t.val + r.val := by
  unfold rowOf; blk_simp [index11 t]
/-- The same for the second output. -/
theorem rowOf_emb7 (t : Fin cfg11.N) (p q : Fin 1) (r : Fin 128) :
    (rowOf (((cfg11.win 7).blk t).view.emb (ix3 p q r))).val = 128 * t.val + r.val := by
  unfold rowOf; blk_simp [index11 t]

set_option maxHeartbeats 600000 in
/-- The weighted sums. -/
theorem den (c : Dev nD) : (dat11 V c).arrAt 6 cfg11.N = fun y =>
    denom (mat (V c (Pipeline.arrRef spec11 0))) (mat (V c (Pipeline.arrRef spec11 1))) (mat (V c (Pipeline.arrRef spec11 2)))
      (fun j k => mat (V c (Pipeline.arrRef spec11 3)) k j) (row (V c (Pipeline.arrRef spec11 4)))
      (row (V c (Pipeline.arrRef spec11 5)) 0) (rowOf y) := by
  refine (dat11 V c).arrAt_eq_of_covers 6 _ (by decide +kernel) fun t hf y => ?_
  rw [after11_6]
  idx_vars y
  refine (den11 _ _ _ _ _ _ _ _ _ _).trans ?_
  have e := rowOf_emb6 t y0 y1 y2
  show _ = denom _ _ _ _ _ _ (rowOf (((cfg11.win 6).blk t).view.emb (ix3 y0 y1 y2)))
  generalize rowOf (((cfg11.win 6).blk t).view.emb (ix3 y0 y1 y2)) = n at e ⊢
  rw [blk11_1, blk11_3, blk11_4, blk11_5]
  unfold denom logit weight
  simp only [blk11_0 V c t y2 _ n e, blk11_2 V c t y2 _ n e]

set_option maxHeartbeats 600000 in
/-- The rows' own logits. -/
theorem dia (c : Dev nD) : (dat11 V c).arrAt 7 cfg11.N = fun y =>
    logit (mat (V c (Pipeline.arrRef spec11 0))) (mat (V c (Pipeline.arrRef spec11 1))) (rowOf y) (rowOf y) := by
  refine (dat11 V c).arrAt_eq_of_covers 7 _ (by decide +kernel) fun t hf y => ?_
  rw [after11_7]
  idx_vars y
  have e := rowOf_emb7 t y0 y1 y2
  show _ = logit _ _ (rowOf (((cfg11.win 7).blk t).view.emb (ix3 y0 y1 y2))) (rowOf (((cfg11.win 7).blk t).view.emb (ix3 y0 y1 y2)))
  generalize rowOf (((cfg11.win 7).blk t).view.emb (ix3 y0 y1 y2)) = n at e ⊢
  refine (dia11 _ _ _ _ _ _ _ _ _ _ n ?_).trans ?_
  · exact e.trans (by rw [(index11 t).2.2.2.2.2.2.2.2])
  rw [blk11_1]
  unfold logit
  simp only [blk11_0 V c t y2 _ n e]

end Cert.KernelIdeal.Val

end
-- ==== Proof.ChainLoss.lean ====
/- The kernel's buffers from the views to the loss. -/
module

public import proofs.«01_k».proof.Proof.ChainViews
public import proofs.«01_k».proof.Proof.Region5
public import proofs.«01_k».proof.Proof.Region6
public import proofs.«01_k».proof.Proof.Region7
public import proofs.«01_k».proof.Proof.Region8
public import proofs.«01_k».proof.Proof.Region9
public import proofs.«01_k».proof.Proof.Region10
public import proofs.«01_k».proof.Proof.Region11

@[expose] public section

set_option maxRecDepth 16384

noncomputable section

namespace Cert.KernelIdeal.Chain

open Cert.KernelIdeal Cert.KernelIdeal.Gen Idealize.ShloMosaic Idealize.ShloMosaic.TcCoe Cert.Spec

variable (m : (ℓ : Loc nD τ sig) → Buf (Elt Ideal) ℓ) (ρ : Dev nD → PrngReg) (c : Dev nD)

/-- A vector in its laid out form. -/
theorem p_v18 : row (W23 m ρ c (Proc.devRef .tc main_v18)) = (K m c).bg1 := by
  refine (Host.v18 (W22 m ρ c)).trans ?_
  rw [W22_args m ρ c main_arg19 (by decide +kernel)]
  rfl
/-- A vector in its laid out form. -/
theorem p_v19 : row (W23 m ρ c (Proc.devRef .tc main_v19)) = (K m c).bg2 := by
  refine (Host.v19 (W22 m ρ c)).trans ?_
  rw [W22_args m ρ c main_arg21 (by decide +kernel)]
  rfl
/-- What a call leaves, in terms of the buffers at its start. -/
theorem r_v20 : W24 m ρ c (Proc.devRef .tc main_v20) = arr (gcn (adjMean (mat (W23 m ρ c (Proc.devRef .tc main_arg4))) (mat (W23 m ρ c (Proc.devRef .tc main_arg5)))) (mat (W23 m ρ c (Proc.devRef .tc main_v10))) (mat (W23 m ρ c (Proc.devRef .tc main_arg18))) (row (W23 m ρ c (Proc.devRef .tc main_v18))) (mat (W23 m ρ c (Proc.devRef .tc main_arg20))) (row (W23 m ρ c (Proc.devRef .tc main_v19)))) :=
  (W24_arr m ρ c 7).trans (Val.arr5 (V23 m ρ) c)
/-- A buffer that nothing writes in between is carried unchanged. -/
theorem c23_v10 : W23 m ρ c (Proc.devRef .tc main_v10) = W17 m ρ c (Proc.devRef .tc main_v10) :=
  (W23_of m ρ c main_v10 (by decide +kernel)).trans ((W22_of m ρ c main_v10 (by decide +kernel)).trans ((c21_v10 m ρ c)))
/-- The coarse features. -/
theorem p_v20 : W24 m ρ c (Proc.devRef .tc main_v20) = arr (K m c).coarse := by
  rw [r_v20 m ρ c, W23_args m ρ c main_arg4 (by decide +kernel), W23_args m ρ c main_arg5 (by decide +kernel), c23_v10 m ρ c, p_v10 m ρ c, W23_args m ρ c main_arg18 (by decide +kernel), p_v18 m ρ c, W23_args m ρ c main_arg20 (by decide +kernel), p_v19 m ρ c]
  rfl
/-- A vector in its laid out form. -/
theorem p_v21 : row (W25 m ρ c (Proc.devRef .tc main_v21)) = (K m c).batt := by
  refine (Host.v21 (W24 m ρ c)).trans ?_
  rw [W24_args m ρ c main_arg23 (by decide +kernel)]
  rfl
/-- A vector in its laid out form. -/
theorem p_v22 : col (W25 m ρ c (Proc.devRef .tc main_v22)) = (K m c).aatt := by
  refine (Host.v22 (W24 m ρ c)).trans ?_
  rw [W24_args m ρ c main_arg24 (by decide +kernel)]
  rfl
/-- What a call leaves, in terms of the buffers at its start. -/
theorem r_v23_0 : W26 m ρ c (Proc.devRef .tc main_v23_0) = arr (normalize (gcn (mat (W25 m ρ c (Proc.devRef .tc main_arg4))) (mat (W25 m ρ c (Proc.devRef .tc main_v17_0))) (mat (W25 m ρ c (Proc.devRef .tc main_arg18))) (row (W25 m ρ c (Proc.devRef .tc main_v18))) (mat (W25 m ρ c (Proc.devRef .tc main_arg20))) (row (W25 m ρ c (Proc.devRef .tc main_v19))))) :=
  (W26_arr m ρ c 9).trans (Val.arr6 (V25 m ρ) c)
/-- A buffer that nothing writes in between is carried unchanged. -/
theorem c25_v17_0 : W25 m ρ c (Proc.devRef .tc main_v17_0) = W22 m ρ c (Proc.devRef .tc main_v17_0) :=
  (W25_of m ρ c main_v17_0 (by decide +kernel)).trans ((W24_of m ρ c main_v17_0 (by decide +kernel)).trans ((W23_of m ρ c main_v17_0 (by decide +kernel))))
/-- A buffer that nothing writes in between is carried unchanged. -/
theorem c25_v18 : W25 m ρ c (Proc.devRef .tc main_v18) = W23 m ρ c (Proc.devRef .tc main_v18) :=
  (W25_of m ρ c main_v18 (by decide +kernel)).trans ((W24_of m ρ c main_v18 (by decide +kernel)))
/-- A buffer that nothing writes in between is carried unchanged. -/
theorem c25_v19 : W25 m ρ c (Proc.devRef .tc main_v19) = W23 m ρ c (Proc.devRef .tc main_v19) :=
  (W25_of m ρ c main_v19 (by decide +kernel)).trans ((W24_of m ρ c main_v19 (by decide +kernel)))
/-- A view's fine features. -/
theorem p_v23_0 : W26 m ρ c (Proc.devRef .tc main_v23_0) = arr (K m c).fine0 := by
  rw [r_v23_0 m ρ c, W25_args m ρ c main_arg4 (by decide +kernel), c25_v17_0 m ρ c, p_v17_0 m ρ c, W25_args m ρ c main_arg18 (by decide +kernel), c25_v18 m ρ c, p_v18 m ρ c, W25_args m ρ c main_arg20 (by decide +kernel), c25_v19 m ρ c, p_v19 m ρ c]
  rfl
/-- What a call leaves, in terms of the buffers at its start. -/
theorem r_v23_1 : W26 m ρ c (Proc.devRef .tc main_v23_1) = arr (fun _ _ => score (normalize (gcn (mat (W25 m ρ c (Proc.devRef .tc main_arg4))) (mat (W25 m ρ c (Proc.devRef .tc main_v17_0))) (mat (W25 m ρ c (Proc.devRef .tc main_arg18))) (row (W25 m ρ c (Proc.devRef .tc main_v18))) (mat (W25 m ρ c (Proc.devRef .tc main_arg20))) (row (W25 m ρ c (Proc.devRef .tc main_v19))))) (mat (W25 m ρ c (Proc.devRef .tc main_arg22))) (row (W25 m ρ c (Proc.devRef .tc main_v21))) (col (W25 m ρ c (Proc.devRef .tc main_v22)))) :=
  (W26_arr m ρ c 10).trans (Val.sc6 (V25 m ρ) c)
/-- and its score. -/
theorem p_v23_1 : W26 m ρ c (Proc.devRef .tc main_v23_1) = arr (fun (_ : Fin 1) (_ : Fin 1) => (K m c).sc (K m c).fine0) := by
  rw [r_v23_1 m ρ c, W25_args m ρ c main_arg4 (by decide +kernel), c25_v17_0 m ρ c, p_v17_0 m ρ c, W25_args m ρ c main_arg18 (by decide +kernel), c25_v18 m ρ c, p_v18 m ρ c, W25_args m ρ c main_arg20 (by decide +kernel), c25_v19 m ρ c, p_v19 m ρ c, W25_args m ρ c main_arg22 (by decide +kernel), p_v21 m ρ c, p_v22 m ρ c]
  rfl
/-- A vector in its laid out form. -/
theorem p_v24 : row (W27 m ρ c (Proc.devRef .tc main_v24)) = (K m c).batt := by
  refine (Host.v24 (W26 m ρ c)).trans ?_
  rw [W26_args m ρ c main_arg23 (by decide +kernel)]
  rfl
/-- A vector in its laid out form. -/
theorem p_v25 : col (W27 m ρ c (Proc.devRef .tc main_v25)) = (K m c).aatt := by
  refine (Host.v25 (W26 m ρ c)).trans ?_
  rw [W26_args m ρ c main_arg24 (by decide +kernel)]
  rfl
/-- What a call leaves, in terms of the buffers at its start. -/
theorem r_v26_0 : W28 m ρ c (Proc.devRef .tc main_v26_0) = arr (normalize (gcn (mat (W27 m ρ c (Proc.devRef .tc main_arg6))) (mat (W27 m ρ c (Proc.devRef .tc main_v17_2))) (mat (W27 m ρ c (Proc.devRef .tc main_arg18))) (row (W27 m ρ c (Proc.devRef .tc main_v18))) (mat (W27 m ρ c (Proc.devRef .tc main_arg20))) (row (W27 m ρ c (Proc.devRef .tc main_v19))))) :=
  (W28_arr m ρ c 9).trans (Val.arr7 (V27 m ρ) c)
/-- A buffer that nothing writes in between is carried unchanged. -/
theorem c27_v17_2 : W27 m ρ c (Proc.devRef .tc main_v17_2) = W22 m ρ c (Proc.devRef .tc main_v17_2) :=
  (W27_of m ρ c main_v17_2 (by decide +kernel)).trans ((W26_of m ρ c main_v17_2 (by decide +kernel)).trans ((W25_of m ρ c main_v17_2 (by decide +kernel)).trans ((W24_of m ρ c main_v17_2 (by decide +kernel)).trans ((W23_of m ρ c main_v17_2 (by decide +kernel))))))
/-- A buffer that nothing writes in between is carried unchanged. -/
theorem c27_v18 : W27 m ρ c (Proc.devRef .tc main_v18) = W23 m ρ c (Proc.devRef .tc main_v18) :=
  (W27_of m ρ c main_v18 (by decide +kernel)).trans ((W26_of m ρ c main_v18 (by decide +kernel)).trans ((c25_v18 m ρ c)))
/-- A buffer that nothing writes in between is carried unchanged. -/
theorem c27_v19 : W27 m ρ c (Proc.devRef .tc main_v19) = W23 m ρ c (Proc.devRef .tc main_v19) :=
  (W27_of m ρ c main_v19 (by decide +kernel)).trans ((W26_of m ρ c main_v19 (by decide +kernel)).trans ((c25_v19 m ρ c)))
/-- A view's fine features. -/
theorem p_v26_0 : W28 m ρ c (Proc.devRef .tc main_v26_0) = arr (K m c).fine1 := by
  rw [r_v26_0 m ρ c, W27_args m ρ c main_arg6 (by decide +kernel), c27_v17_2 m ρ c, p_v17_2 m ρ c, W27_args m ρ c main_arg18 (by decide +kernel), c27_v18 m ρ c, p_v18 m ρ c, W27_args m ρ c main_arg20 (by decide +kernel), c27_v19 m ρ c, p_v19 m ρ c]
  rfl
/-- What a call leaves, in terms of the buffers at its start. -/
theorem r_v26_1 : W28 m ρ c (Proc.devRef .tc main_v26_1) = arr (fun _ _ => score (normalize (gcn (mat (W27 m ρ c (Proc.devRef .tc main_arg6))) (mat (W27 m ρ c (Proc.devRef .tc main_v17_2))) (mat (W27 m ρ c (Proc.devRef .tc main_arg18))) (row (W27 m ρ c (Proc.devRef .tc main_v18))) (mat (W27 m ρ c (Proc.devRef .tc main_arg20))) (row (W27 m ρ c (Proc.devRef .tc main_v19))))) (mat (W27 m ρ c (Proc.devRef .tc main_arg22))) (row (W27 m ρ c (Proc.devRef .tc main_v24))) (col (W27 m ρ c (Proc.devRef .tc main_v25)))) :=
  (W28_arr m ρ c 10).trans (Val.sc7 (V27 m ρ) c)
/-- and its score. -/
theorem p_v26_1 : W28 m ρ c (Proc.devRef .tc main_v26_1) = arr (fun (_ : Fin 1) (_ : Fin 1) => (K m c).sc (K m c).fine1) := by
  rw [r_v26_1 m ρ c, W27_args m ρ c main_arg6 (by decide +kernel), c27_v17_2 m ρ c, p_v17_2 m ρ c, W27_args m ρ c main_arg18 (by decide +kernel), c27_v18 m ρ c, p_v18 m ρ c, W27_args m ρ c main_arg20 (by decide +kernel), c27_v19 m ρ c, p_v19 m ρ c, W27_args m ρ c main_arg22 (by decide +kernel), p_v24 m ρ c, p_v25 m ρ c]
  rfl
/-- A vector in its laid out form. -/
theorem p_v27 : row (W29 m ρ c (Proc.devRef .tc main_v27)) = (K m c).batt := by
  refine (Host.v27 (W28 m ρ c)).trans ?_
  rw [W28_args m ρ c main_arg23 (by decide +kernel)]
  rfl
/-- A vector in its laid out form. -/
theorem p_v28 : col (W29 m ρ c (Proc.devRef .tc main_v28)) = (K m c).aatt := by
  refine (Host.v28 (W28 m ρ c)).trans ?_
  rw [W28_args m ρ c main_arg24 (by decide +kernel)]
  rfl
/-- What a call leaves, in terms of the buffers at its start. -/
theorem r_v29_0 : W30 m ρ c (Proc.devRef .tc main_v29_0) = arr (normalize (gcn (mat (W29 m ρ c (Proc.devRef .tc main_arg5))) (mat (W29 m ρ c (Proc.devRef .tc main_v17_1))) (mat (W29 m ρ c (Proc.devRef .tc main_arg18))) (row (W29 m ρ c (Proc.devRef .tc main_v18))) (mat (W29 m ρ c (Proc.devRef .tc main_arg20))) (row (W29 m ρ c (Proc.devRef .tc main_v19))))) :=
  (W30_arr m ρ c 9).trans (Val.arr8 (V29 m ρ) c)
/-- A buffer that nothing writes in between is carried unchanged. -/
theorem c29_v17_1 : W29 m ρ c (Proc.devRef .tc main_v17_1) = W22 m ρ c (Proc.devRef .tc main_v17_1) :=
  (W29_of m ρ c main_v17_1 (by decide +kernel)).trans ((W28_of m ρ c main_v17_1 (by decide +kernel)).trans ((W27_of m ρ c main_v17_1 (by decide +kernel)).trans ((W26_of m ρ c main_v17_1 (by decide +kernel)).trans ((W25_of m ρ c main_v17_1 (by decide +kernel)).trans ((W24_of m ρ c main_v17_1 (by decide +kernel)).trans ((W23_of m ρ c main_v17_1 (by decide +kernel))))))))
/-- A buffer that nothing writes in between is carried unchanged. -/
theorem c29_v18 : W29 m ρ c (Proc.devRef .tc main_v18) = W23 m ρ c (Proc.devRef .tc main_v18) :=
  (W29_of m ρ c main_v18 (by decide +kernel)).trans ((W28_of m ρ c main_v18 (by decide +kernel)).trans ((c27_v18 m ρ c)))
/-- A buffer that nothing writes in between is carried unchanged. -/
theorem c29_v19 : W29 m ρ c (Proc.devRef .tc main_v19) = W23 m ρ c (Proc.devRef .tc main_v19) :=
  (W29_of m ρ c main_v19 (by decide +kernel)).trans ((W28_of m ρ c main_v19 (by decide +kernel)).trans ((c27_v19 m ρ c)))
/-- A view's fine features. -/
theorem p_v29_0 : W30 m ρ c (Proc.devRef .tc main_v29_0) = arr (K m c).fine2 := by
  rw [r_v29_0 m ρ c, W29_args m ρ c main_arg5 (by decide +kernel), c29_v17_1 m ρ c, p_v17_1 m ρ c, W29_args m ρ c main_arg18 (by decide +kernel), c29_v18 m ρ c, p_v18 m ρ c, W29_args m ρ c main_arg20 (by decide +kernel), c29_v19 m ρ c, p_v19 m ρ c]
  rfl
/-- What a call leaves, in terms of the buffers at its start. -/
theorem r_v29_1 : W30 m ρ c (Proc.devRef .tc main_v29_1) = arr (fun _ _ => score (normalize (gcn (mat (W29 m ρ c (Proc.devRef .tc main_arg5))) (mat (W29 m ρ c (Proc.devRef .tc main_v17_1))) (mat (W29 m ρ c (Proc.devRef .tc main_arg18))) (row (W29 m ρ c (Proc.devRef .tc main_v18))) (mat (W29 m ρ c (Proc.devRef .tc main_arg20))) (row (W29 m ρ c (Proc.devRef .tc main_v19))))) (mat (W29 m ρ c (Proc.devRef .tc main_arg22))) (row (W29 m ρ c (Proc.devRef .tc main_v27))) (col (W29 m ρ c (Proc.devRef .tc main_v28)))) :=
  (W30_arr m ρ c 10).trans (Val.sc8 (V29 m ρ) c)
/-- and its score. -/
theorem p_v29_1 : W30 m ρ c (Proc.devRef .tc main_v29_1) = arr (fun (_ : Fin 1) (_ : Fin 1) => (K m c).sc (K m c).fine2) := by
  rw [r_v29_1 m ρ c, W29_args m ρ c main_arg5 (by decide +kernel), c29_v17_1 m ρ c, p_v17_1 m ρ c, W29_args m ρ c main_arg18 (by decide +kernel), c29_v18 m ρ c, p_v18 m ρ c, W29_args m ρ c main_arg20 (by decide +kernel), c29_v19 m ρ c, p_v19 m ρ c, W29_args m ρ c main_arg22 (by decide +kernel), p_v27 m ρ c, p_v28 m ρ c]
  rfl
/-- A vector in its laid out form. -/
theorem p_v30 : row (W31 m ρ c (Proc.devRef .tc main_v30)) = (K m c).batt := by
  refine (Host.v30 (W30 m ρ c)).trans ?_
  rw [W30_args m ρ c main_arg23 (by decide +kernel)]
  rfl
/-- A vector in its laid out form. -/
theorem p_v31 : col (W31 m ρ c (Proc.devRef .tc main_v31)) = (K m c).aatt := by
  refine (Host.v31 (W30 m ρ c)).trans ?_
  rw [W30_args m ρ c main_arg24 (by decide +kernel)]
  rfl
/-- What a call leaves, in terms of the buffers at its start. -/
theorem r_v32_0 : W32 m ρ c (Proc.devRef .tc main_v32_0) = arr (normalize (gcn (mat (W31 m ρ c (Proc.devRef .tc main_arg7))) (mat (W31 m ρ c (Proc.devRef .tc main_v17_3))) (mat (W31 m ρ c (Proc.devRef .tc main_arg18))) (row (W31 m ρ c (Proc.devRef .tc main_v18))) (mat (W31 m ρ c (Proc.devRef .tc main_arg20))) (row (W31 m ρ c (Proc.devRef .tc main_v19))))) :=
  (W32_arr m ρ c 9).trans (Val.arr9 (V31 m ρ) c)
/-- A buffer that nothing writes in between is carried unchanged. -/
theorem c31_v17_3 : W31 m ρ c (Proc.devRef .tc main_v17_3) = W22 m ρ c (Proc.devRef .tc main_v17_3) :=
  (W31_of m ρ c main_v17_3 (by decide +kernel)).trans ((W30_of m ρ c main_v17_3 (by decide +kernel)).trans ((W29_of m ρ c main_v17_3 (by decide +kernel)).trans ((W28_of m ρ c main_v17_3 (by decide +kernel)).trans ((W27_of m ρ c main_v17_3 (by decide +kernel)).trans ((W26_of m ρ c main_v17_3 (by decide +kernel)).trans ((W25_of m ρ c main_v17_3 (by decide +kernel)).trans ((W24_of m ρ c main_v17_3 (by decide +kernel)).trans ((W23_of m ρ c main_v17_3 (by decide +kernel))))))))))
/-- A buffer that nothing writes in between is carried unchanged. -/
theorem c31_v18 : W31 m ρ c (Proc.devRef .tc main_v18) = W23 m ρ c (Proc.devRef .tc main_v18) :=
  (W31_of m ρ c main_v18 (by decide +kernel)).trans ((W30_of m ρ c main_v18 (by decide +kernel)).trans ((c29_v18 m ρ c)))
/-- A buffer that nothing writes in between is carried unchanged. -/
theorem c31_v19 : W31 m ρ c (Proc.devRef .tc main_v19) = W23 m ρ c (Proc.devRef .tc main_v19) :=
  (W31_of m ρ c main_v19 (by decide +kernel)).trans ((W30_of m ρ c main_v19 (by decide +kernel)).trans ((c29_v19 m ρ c)))
/-- A view's fine features. -/
theorem p_v32_0 : W32 m ρ c (Proc.devRef .tc main_v32_0) = arr (K m c).fine3 := by
  rw [r_v32_0 m ρ c, W31_args m ρ c main_arg7 (by decide +kernel), c31_v17_3 m ρ c, p_v17_3 m ρ c, W31_args m ρ c main_arg18 (by decide +kernel), c31_v18 m ρ c, p_v18 m ρ c, W31_args m ρ c main_arg20 (by decide +kernel), c31_v19 m ρ c, p_v19 m ρ c]
  rfl
/-- What a call leaves, in terms of the buffers at its start. -/
theorem r_v32_1 : W32 m ρ c (Proc.devRef .tc main_v32_1) = arr (fun _ _ => score (normalize (gcn (mat (W31 m ρ c (Proc.devRef .tc main_arg7))) (mat (W31 m ρ c (Proc.devRef .tc main_v17_3))) (mat (W31 m ρ c (Proc.devRef .tc main_arg18))) (row (W31 m ρ c (Proc.devRef .tc main_v18))) (mat (W31 m ρ c (Proc.devRef .tc main_arg20))) (row (W31 m ρ c (Proc.devRef .tc main_v19))))) (mat (W31 m ρ c (Proc.devRef .tc main_arg22))) (row (W31 m ρ c (Proc.devRef .tc main_v30))) (col (W31 m ρ c (Proc.devRef .tc main_v31)))) :=
  (W32_arr m ρ c 10).trans (Val.sc9 (V31 m ρ) c)
/-- and its score. -/
theorem p_v32_1 : W32 m ρ c (Proc.devRef .tc main_v32_1) = arr (fun (_ : Fin 1) (_ : Fin 1) => (K m c).sc (K m c).fine3) := by
  rw [r_v32_1 m ρ c, W31_args m ρ c main_arg7 (by decide +kernel), c31_v17_3 m ρ c, p_v17_3 m ρ c, W31_args m ρ c main_arg18 (by decide +kernel), c31_v18 m ρ c, p_v18 m ρ c, W31_args m ρ c main_arg20 (by decide +kernel), c31_v19 m ρ c, p_v19 m ρ c, W31_args m ρ c main_arg22 (by decide +kernel), p_v30 m ρ c, p_v31 m ρ c]
  rfl
/-- A vector in its laid out form. -/
theorem p_v46 : row (W33 m ρ c (Proc.devRef .tc main_v46)) = (K m c).bproj := by
  refine (Host.v46 (W32 m ρ c)).trans ?_
  rw [W32_args m ρ c main_arg26 (by decide +kernel)]
  rfl
/-- A vector in its laid out form. -/
theorem p_v47 : row (W33 m ρ c (Proc.devRef .tc main_v47)) = (K m c).bm1 := by
  refine (Host.v47 (W32 m ρ c)).trans ?_
  rw [W32_args m ρ c main_arg28 (by decide +kernel)]
  rfl
/-- A buffer that nothing writes in between is carried unchanged. -/
theorem c32_v23_1 : W32 m ρ c (Proc.devRef .tc main_v23_1) = W26 m ρ c (Proc.devRef .tc main_v23_1) :=
  (W32_of m ρ c main_v23_1 (by decide +kernel)).trans ((W31_of m ρ c main_v23_1 (by decide +kernel)).trans ((W30_of m ρ c main_v23_1 (by decide +kernel)).trans ((W29_of m ρ c main_v23_1 (by decide +kernel)).trans ((W28_of m ρ c main_v23_1 (by decide +kernel)).trans ((W27_of m ρ c main_v23_1 (by decide +kernel)))))))
/-- A buffer that nothing writes in between is carried unchanged. -/
theorem c32_v26_1 : W32 m ρ c (Proc.devRef .tc main_v26_1) = W28 m ρ c (Proc.devRef .tc main_v26_1) :=
  (W32_of m ρ c main_v26_1 (by decide +kernel)).trans ((W31_of m ρ c main_v26_1 (by decide +kernel)).trans ((W30_of m ρ c main_v26_1 (by decide +kernel)).trans ((W29_of m ρ c main_v26_1 (by decide +kernel)))))
/-- A buffer that nothing writes in between is carried unchanged. -/
theorem c32_v29_1 : W32 m ρ c (Proc.devRef .tc main_v29_1) = W30 m ρ c (Proc.devRef .tc main_v29_1) :=
  (W32_of m ρ c main_v29_1 (by decide +kernel)).trans ((W31_of m ρ c main_v29_1 (by decide +kernel)))
/-- The weights of the four views. -/
theorem p_v45 : row (W33 m ρ c (Proc.devRef .tc main_v45)) = (K m c).beta := by
  refine (Host.v45 (W32 m ρ c)).trans ?_
  rw [c32_v23_1 m ρ c, p_v23_1 m ρ c, c32_v26_1 m ρ c, p_v26_1 m ρ c, c32_v29_1 m ρ c, p_v29_1 m ρ c, p_v32_1 m ρ c]
  rfl
/-- What a call leaves, in terms of the buffers at its start. -/
theorem r_v48_0 : W34 m ρ c (Proc.devRef .tc main_v48_0) = arr (proj (blend (row (W33 m ρ c (Proc.devRef .tc main_v45))) (mat (W33 m ρ c (Proc.devRef .tc main_v23_0))) (mat (W33 m ρ c (Proc.devRef .tc main_v26_0))) (mat (W33 m ρ c (Proc.devRef .tc main_v29_0))) (mat (W33 m ρ c (Proc.devRef .tc main_v32_0)))) (mat (W33 m ρ c (Proc.devRef .tc main_arg25))) (row (W33 m ρ c (Proc.devRef .tc main_v46)))) :=
  (W34_arr m ρ c 10).trans (Val.zf10 (V33 m ρ) c)
/-- A buffer that nothing writes in between is carried unchanged. -/
theorem c33_v23_0 : W33 m ρ c (Proc.devRef .tc main_v23_0) = W26 m ρ c (Proc.devRef .tc main_v23_0) :=
  (W33_of m ρ c main_v23_0 (by decide +kernel)).trans ((W32_of m ρ c main_v23_0 (by decide +kernel)).trans ((W31_of m ρ c main_v23_0 (by decide +kernel)).trans ((W30_of m ρ c main_v23_0 (by decide +kernel)).trans ((W29_of m ρ c main_v23_0 (by decide +kernel)).trans ((W28_of m ρ c main_v23_0 (by decide +kernel)).trans ((W27_of m ρ c main_v23_0 (by decide +kernel))))))))
/-- A buffer that nothing writes in between is carried unchanged. -/
theorem c33_v26_0 : W33 m ρ c (Proc.devRef .tc main_v26_0) = W28 m ρ c (Proc.devRef .tc main_v26_0) :=
  (W33_of m ρ c main_v26_0 (by decide +kernel)).trans ((W32_of m ρ c main_v26_0 (by decide +kernel)).trans ((W31_of m ρ c main_v26_0 (by decide +kernel)).trans ((W30_of m ρ c main_v26_0 (by decide +kernel)).trans ((W29_of m ρ c main_v26_0 (by decide +kernel))))))
/-- A buffer that nothing writes in between is carried unchanged. -/
theorem c33_v29_0 : W33 m ρ c (Proc.devRef .tc main_v29_0) = W30 m ρ c (Proc.devRef .tc main_v29_0) :=
  (W33_of m ρ c main_v29_0 (by decide +kernel)).trans ((W32_of m ρ c main_v29_0 (by decide +kernel)).trans ((W31_of m ρ c main_v29_0 (by decide +kernel))))
/-- A buffer that nothing writes in between is carried unchanged. -/
theorem c33_v32_0 : W33 m ρ c (Proc.devRef .tc main_v32_0) = W32 m ρ c (Proc.devRef .tc main_v32_0) :=
  (W33_of m ρ c main_v32_0 (by decide +kernel))
/-- The fine projection. -/
theorem p_v48_0 : W34 m ρ c (Proc.devRef .tc main_v48_0) = arr (K m c).zf := by
  rw [r_v48_0 m ρ c, p_v45 m ρ c, c33_v23_0 m ρ c, p_v23_0 m ρ c, c33_v26_0 m ρ c, p_v26_0 m ρ c, c33_v29_0 m ρ c, p_v29_0 m ρ c, c33_v32_0 m ρ c, p_v32_0 m ρ c, W33_args m ρ c main_arg25 (by decide +kernel), p_v46 m ρ c]
  rfl
/-- What a call leaves, in terms of the buffers at its start. -/
theorem r_v48_1 : W34 m ρ c (Proc.devRef .tc main_v48_1) = arr (proj (mat (W33 m ρ c (Proc.devRef .tc main_v20))) (mat (W33 m ρ c (Proc.devRef .tc main_arg25))) (row (W33 m ρ c (Proc.devRef .tc main_v46)))) :=
  (W34_arr m ρ c 11).trans (Val.zc10 (V33 m ρ) c)
/-- A buffer that nothing writes in between is carried unchanged. -/
theorem c33_v20 : W33 m ρ c (Proc.devRef .tc main_v20) = W24 m ρ c (Proc.devRef .tc main_v20) :=
  (W33_of m ρ c main_v20 (by decide +kernel)).trans ((W32_of m ρ c main_v20 (by decide +kernel)).trans ((W31_of m ρ c main_v20 (by decide +kernel)).trans ((W30_of m ρ c main_v20 (by decide +kernel)).trans ((W29_of m ρ c main_v20 (by decide +kernel)).trans ((W28_of m ρ c main_v20 (by decide +kernel)).trans ((W27_of m ρ c main_v20 (by decide +kernel)).trans ((W26_of m ρ c main_v20 (by decide +kernel)).trans ((W25_of m ρ c main_v20 (by decide +kernel))))))))))
/-- The coarse projection. -/
theorem p_v48_1 : W34 m ρ c (Proc.devRef .tc main_v48_1) = arr (K m c).zc := by
  rw [r_v48_1 m ρ c, c33_v20 m ρ c, p_v20 m ρ c, W33_args m ρ c main_arg25 (by decide +kernel), p_v46 m ρ c]
  rfl
/-- What a call leaves, in terms of the buffers at its start. -/
theorem r_v48_2 : W34 m ρ c (Proc.devRef .tc main_v48_2) = arr (mm (proj (blend (row (W33 m ρ c (Proc.devRef .tc main_v45))) (mat (W33 m ρ c (Proc.devRef .tc main_v23_0))) (mat (W33 m ρ c (Proc.devRef .tc main_v26_0))) (mat (W33 m ρ c (Proc.devRef .tc main_v29_0))) (mat (W33 m ρ c (Proc.devRef .tc main_v32_0)))) (mat (W33 m ρ c (Proc.devRef .tc main_arg25))) (row (W33 m ρ c (Proc.devRef .tc main_v46)))) (mat (W33 m ρ c (Proc.devRef .tc main_arg27)))) :=
  (W34_arr m ρ c 12).trans (Val.left10 (V33 m ρ) c)
/-- The pair layer's half that depends on the row. -/
theorem p_v48_2 : W34 m ρ c (Proc.devRef .tc main_v48_2) = arr (K m c).left := by
  rw [r_v48_2 m ρ c, p_v45 m ρ c, c33_v23_0 m ρ c, p_v23_0 m ρ c, c33_v26_0 m ρ c, p_v26_0 m ρ c, c33_v29_0 m ρ c, p_v29_0 m ρ c, c33_v32_0 m ρ c, p_v32_0 m ρ c, W33_args m ρ c main_arg25 (by decide +kernel), p_v46 m ρ c, W33_args m ρ c main_arg27 (by decide +kernel)]
  rfl
/-- What a call leaves, in terms of the buffers at its start. -/
theorem r_v48_3 : W34 m ρ c (Proc.devRef .tc main_v48_3) = arr (fun k j => mm (proj (mat (W33 m ρ c (Proc.devRef .tc main_v20))) (mat (W33 m ρ c (Proc.devRef .tc main_arg25))) (row (W33 m ρ c (Proc.devRef .tc main_v46)))) (mat (W33 m ρ c (Proc.devRef .tc main_arg27))) j k + (row (W33 m ρ c (Proc.devRef .tc main_v47))) k) :=
  (W34_arr m ρ c 13).trans (Val.right10 (V33 m ρ) c)
/-- The half that depends on the column. -/
theorem p_v48_3 : W34 m ρ c (Proc.devRef .tc main_v48_3) = arr (fun k j => (K m c).right j k) := by
  rw [r_v48_3 m ρ c, c33_v20 m ρ c, p_v20 m ρ c, W33_args m ρ c main_arg25 (by decide +kernel), p_v46 m ρ c, W33_args m ρ c main_arg27 (by decide +kernel), p_v47 m ρ c]
  rfl
/-- The pair layer's last weights -/
theorem p_v49 : row (W35 m ρ c (Proc.devRef .tc main_v49)) = (K m c).wm2 := by
  refine (Host.v49 (W34 m ρ c)).trans ?_
  rw [W34_args m ρ c main_arg29 (by decide +kernel)]
  rfl
/-- and bias. -/
theorem p_v50 : row (W35 m ρ c (Proc.devRef .tc main_v50)) 0 = (K m c).bm2 := by
  refine (Host.v50 (W34 m ρ c)).trans ?_
  rw [W34_args m ρ c main_arg30 (by decide +kernel)]
  rfl
/-- What a call leaves, in terms of the buffers at its start. -/
theorem r_v51_0 : W36 m ρ c (Proc.devRef .tc main_v51_0) = fun y => denom (mat (W35 m ρ c (Proc.devRef .tc main_v48_0))) (mat (W35 m ρ c (Proc.devRef .tc main_v48_1))) (mat (W35 m ρ c (Proc.devRef .tc main_v48_2))) (fun j k => mat (W35 m ρ c (Proc.devRef .tc main_v48_3)) k j) (row (W35 m ρ c (Proc.devRef .tc main_v49))) ((row (W35 m ρ c (Proc.devRef .tc main_v50))) 0) (Val.rowOf y) :=
  (W36_arr m ρ c 6).trans (Val.den (V35 m ρ) c)
/-- A buffer that nothing writes in between is carried unchanged. -/
theorem c35_v48_0 : W35 m ρ c (Proc.devRef .tc main_v48_0) = W34 m ρ c (Proc.devRef .tc main_v48_0) :=
  (W35_of m ρ c main_v48_0 (by decide +kernel))
/-- A buffer that nothing writes in between is carried unchanged. -/
theorem c35_v48_1 : W35 m ρ c (Proc.devRef .tc main_v48_1) = W34 m ρ c (Proc.devRef .tc main_v48_1) :=
  (W35_of m ρ c main_v48_1 (by decide +kernel))
/-- A buffer that nothing writes in between is carried unchanged. -/
theorem c35_v48_2 : W35 m ρ c (Proc.devRef .tc main_v48_2) = W34 m ρ c (Proc.devRef .tc main_v48_2) :=
  (W35_of m ρ c main_v48_2 (by decide +kernel))
/-- A buffer that nothing writes in between is carried unchanged. -/
theorem c35_v48_3 : W35 m ρ c (Proc.devRef .tc main_v48_3) = W34 m ρ c (Proc.devRef .tc main_v48_3) :=
  (W35_of m ρ c main_v48_3 (by decide +kernel))
/-- The weighted sums. -/
theorem p_v51_0 : W36 m ρ c (Proc.devRef .tc main_v51_0) = fun y => denom (K m c).zf (K m c).zc (K m c).left (K m c).right (K m c).wm2 (K m c).bm2 (Val.rowOf y) := by
  rw [r_v51_0 m ρ c, c35_v48_0 m ρ c, p_v48_0 m ρ c, c35_v48_1 m ρ c, p_v48_1 m ρ c, c35_v48_2 m ρ c, p_v48_2 m ρ c, c35_v48_3 m ρ c, p_v48_3 m ρ c, p_v49 m ρ c, p_v50 m ρ c]
  rfl
/-- What a call leaves, in terms of the buffers at its start. -/
theorem r_v51_1 : W36 m ρ c (Proc.devRef .tc main_v51_1) = fun y => logit (mat (W35 m ρ c (Proc.devRef .tc main_v48_0))) (mat (W35 m ρ c (Proc.devRef .tc main_v48_1))) (Val.rowOf y) (Val.rowOf y) :=
  (W36_arr m ρ c 7).trans (Val.dia (V35 m ρ) c)
/-- The rows' own logits. -/
theorem p_v51_1 : W36 m ρ c (Proc.devRef .tc main_v51_1) = fun y => logit (K m c).zf (K m c).zc (Val.rowOf y) (Val.rowOf y) := by
  rw [r_v51_1 m ρ c, c35_v48_0 m ρ c, p_v48_0 m ρ c, c35_v48_1 m ρ c, p_v48_1 m ρ c]
  rfl
/-- The row of the element of the outputs that a row of the whole reads. -/
theorem rowOf_split (i : Fin 1024) : Val.rowOf (ix3 ⟨i.val / 128, by omega⟩ 0 ⟨i.val % 128, by omega⟩) = i :=
  Fin.ext (Nat.div_add_mod i.val 128)
/-- The loss. -/
theorem p_v57 : W37 m ρ c (Proc.devRef .tc main_v57) = fun _ => (K m c).value := by
  refine (Host.v57 (W36 m ρ c)).trans ?_
  rw [p_v51_0 m ρ c, p_v51_1 m ρ c]
  funext y
  refine congrArg (Ideal.div · rows) (Finset.sum_congr rfl fun i _ => ?_)
  show Ideal.log (denom _ _ _ _ _ _ (Val.rowOf _)) - logit _ _ (Val.rowOf _) (Val.rowOf _) = _
  rw [rowOf_split]

end Cert.KernelIdeal.Chain

end
-- ==== Proof.KernelRun.lean ====
/- The kernel's program ends with the loss in its result, from any memory. -/
module

public import proofs.«01_k».proof.Proof.ChainLoss
public import proofs.«01_k».proof.Proof.Gen.KernelIdeal.Frame

@[expose] public section

set_option maxRecDepth 16384

noncomputable section

namespace Cert.KernelIdeal.Chain

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The algebra of the launch. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, and the result is then the network's loss on the arguments as launched. -/
theorem run_loss : θ_run defs (onTc (τ := τ) (main (F := Ideal))) ⟨m, fun _ => 0, ρ⟩ (fun r => ∀ c : Dev nD,
    r.2.mem ((c.tc : Thread nD τ).loc main_v57) = fun _ => (K m c).value) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h hz c => (h c _ (mem_uc main_v57 (by decide))).trans (p_v57 m ρ c))

end Cert.KernelIdeal.Chain

end
-- ==== Proof.RefViews.lean ====
/- The reference's arguments, and its stages up to the views: each buffer holds the stage of the mathematics it is. -/
module

public import proofs.«01_k».proof.Proof.Scalars
public import proofs.«01_k».proof.Proof.Gen.ReferenceIdeal.Read

@[expose] public section

set_option maxRecDepth 16384

noncomputable section

namespace Cert.ReferenceIdeal.Stage

open Cert.ReferenceIdeal Cert.ReferenceIdeal.Gen Cert.ReferenceIdeal.Read Idealize.ShloMosaic Cert.Spec

/-- The reference's arguments. -/
structure In where
  x0 : (⟨S1024x1902, .f32⟩ : BufTy).Contents (Elt Ideal)
  x1 : (⟨S4096x334, .f32⟩ : BufTy).Contents (Elt Ideal)
  x2 : (⟨S60x64, .f32⟩ : BufTy).Contents (Elt Ideal)
  x3 : (⟨S1024x1902, .f32⟩ : BufTy).Contents (Elt Ideal)
  x4 : (⟨S1024x1024, .f32⟩ : BufTy).Contents (Elt Ideal)
  x5 : (⟨S1024x1024, .f32⟩ : BufTy).Contents (Elt Ideal)
  x6 : (⟨S1024x1024, .f32⟩ : BufTy).Contents (Elt Ideal)
  x7 : (⟨S1024x1024, .f32⟩ : BufTy).Contents (Elt Ideal)
  x8 : (⟨S1024x4096, .f32⟩ : BufTy).Contents (Elt Ideal)
  x9 : (⟨S1024x60, .f32⟩ : BufTy).Contents (Elt Ideal)
  x10 : (⟨S1902x256, .f32⟩ : BufTy).Contents (Elt Ideal)
  x11 : (⟨S256, .f32⟩ : BufTy).Contents (Elt Ideal)
  x12 : (⟨S334x256, .f32⟩ : BufTy).Contents (Elt Ideal)
  x13 : (⟨S256, .f32⟩ : BufTy).Contents (Elt Ideal)
  x14 : (⟨S64x256, .f32⟩ : BufTy).Contents (Elt Ideal)
  x15 : (⟨S256, .f32⟩ : BufTy).Contents (Elt Ideal)
  x16 : (⟨S256x256, .f32⟩ : BufTy).Contents (Elt Ideal)
  x17 : (⟨S256x256, .f32⟩ : BufTy).Contents (Elt Ideal)
  x18 : (⟨S256x64, .f32⟩ : BufTy).Contents (Elt Ideal)
  x19 : (⟨S64, .f32⟩ : BufTy).Contents (Elt Ideal)
  x20 : (⟨S64x64, .f32⟩ : BufTy).Contents (Elt Ideal)
  x21 : (⟨S64, .f32⟩ : BufTy).Contents (Elt Ideal)
  x22 : (⟨S64x64, .f32⟩ : BufTy).Contents (Elt Ideal)
  x23 : (⟨S64, .f32⟩ : BufTy).Contents (Elt Ideal)
  x24 : (⟨S64, .f32⟩ : BufTy).Contents (Elt Ideal)
  x25 : (⟨S64x64, .f32⟩ : BufTy).Contents (Elt Ideal)
  x26 : (⟨S64, .f32⟩ : BufTy).Contents (Elt Ideal)
  x27 : (⟨S64x16, .f32⟩ : BufTy).Contents (Elt Ideal)
  x28 : (⟨S16, .f32⟩ : BufTy).Contents (Elt Ideal)
  x29 : (⟨S16x1, .f32⟩ : BufTy).Contents (Elt Ideal)
  x30 : (⟨S1, .f32⟩ : BufTy).Contents (Elt Ideal)

/-- The network's arguments among them. -/
def In.args (X : In) : Args where
  feat0 := mat X.x0
  feat1 := mat X.x1
  feat2 := mat X.x2
  maskFeat := mat X.x3
  adj0 := mat X.x4
  adj1 := mat X.x5
  maskAdj0 := mat X.x6
  maskAdj1 := mat X.x7
  nei0 := mat X.x8
  nei1 := mat X.x9
  wfc0 := mat X.x10
  bfc0 := vec X.x11
  wfc1 := mat X.x12
  bfc1 := vec X.x13
  wfc2 := mat X.x14
  bfc2 := vec X.x15
  wagg0 := mat X.x16
  wagg1 := mat X.x17
  wg1 := mat X.x18
  bg1 := vec X.x19
  wg2 := mat X.x20
  bg2 := vec X.x21
  watt := mat X.x22
  batt := vec X.x23
  aatt := vec X.x24
  wproj := mat X.x25
  bproj := vec X.x26
  wm1 := mat X.x27
  bm1 := vec X.x28
  wm2 := col X.x29
  bm2 := X.x30 (ix1 0)

variable (X : In)

/-- The targets' features. -/
theorem v14_eq : mat (val_main_v14 (F := Ideal) X.x0 X.x10 X.x11) = X.args.tar := by
  funext i j
  change val_main_v14 (F := Ideal) X.x0 X.x10 X.x11 (ix2 i j) = _
  pointwise [id, val_main_v10, val_main_v11, val_main_v12, val_main_v13, val_main_call2_cst, val_main_call2_v0,
    val_main_call2_v1, val_main_call2_cst_0, val_main_call2_v2, val_main_call2_v3, val_main_call2_cst_1,
    val_main_call2_call0_v0, val_main_call2_call0_v1, val_main_call2_v4, val_main_call2_v5, val_main_call2_cst_2,
    val_main_call2_v6, val_main_call2_v7, val_main_v14]
  exact elu_where _

/-- The first neighbours' features. -/
theorem v19_eq : mat (val_main_v19 (F := Ideal) X.x1 X.x12 X.x13) = X.args.near0 := by
  funext i j
  change val_main_v19 (F := Ideal) X.x1 X.x12 X.x13 (ix2 i j) = _
  pointwise [id, val_main_v15, val_main_v16, val_main_v17, val_main_v18, val_main_call3_cst, val_main_call3_v0,
    val_main_call3_v1, val_main_call3_cst_0, val_main_call3_v2, val_main_call3_v3, val_main_call3_cst_1,
    val_main_call3_call0_v0, val_main_call3_call0_v1, val_main_call3_v4, val_main_call3_v5, val_main_call3_cst_2,
    val_main_call3_v6, val_main_call3_v7, val_main_v19]
  exact elu_where _

/-- The second neighbours' features. -/
theorem v24_eq : mat (val_main_v24 (F := Ideal) X.x2 X.x14 X.x15) = X.args.near1 := by
  funext i j
  change val_main_v24 (F := Ideal) X.x2 X.x14 X.x15 (ix2 i j) = _
  pointwise [id, val_main_v20, val_main_v21, val_main_v22, val_main_v23, val_main_call4_cst, val_main_call4_v0,
    val_main_call4_v1, val_main_call4_cst_0, val_main_call4_v2, val_main_call4_v3, val_main_call4_cst_1,
    val_main_call4_call0_v0, val_main_call4_call0_v1, val_main_call4_v4, val_main_call4_v5, val_main_call4_cst_2,
    val_main_call4_v6, val_main_call4_v7, val_main_v24]
  exact elu_where _

/-- The masked targets' features. -/
theorem v41_eq : mat (val_main_v41 (F := Ideal) X.x3 X.x10 X.x11) = X.args.mask := by
  funext i j
  change val_main_v41 (F := Ideal) X.x3 X.x10 X.x11 (ix2 i j) = _
  pointwise [id, val_main_v37, val_main_v38, val_main_v39, val_main_v40, val_main_call7_cst, val_main_call7_v0,
    val_main_call7_v1, val_main_call7_cst_0, val_main_call7_v2, val_main_call7_v3, val_main_call7_cst_1,
    val_main_call7_call0_v0, val_main_call7_call0_v1, val_main_call7_v4, val_main_call7_v5, val_main_call7_cst_2,
    val_main_call7_v6, val_main_call7_v7, val_main_v41]
  exact elu_where _

/-- The first neighbours' mean. -/
theorem v27_eq : mat (val_main_v27 (F := Ideal) X.x1 X.x8 X.x12 X.x13) = X.args.agg0 := by
  funext i j
  change val_main_v27 (F := Ideal) X.x1 X.x8 X.x12 X.x13 (ix2 i j) = _
  rw [Args.agg0, ← v19_eq X]
  pointwise [id, val_main_cst, val_main_v0, val_main_v1, val_main_cst_0, val_main_v2, val_main_v3, val_main_cst_1,
    val_main_call0_v0, val_main_call0_v1, val_main_v4, val_main_v25, val_main_v26, val_main_v27]
  rfl

/-- The second neighbours' mean. -/
theorem v30_eq : mat (val_main_v30 (F := Ideal) X.x2 X.x9 X.x14 X.x15) = X.args.agg1 := by
  funext i j
  change val_main_v30 (F := Ideal) X.x2 X.x9 X.x14 X.x15 (ix2 i j) = _
  rw [Args.agg1, ← v24_eq X]
  pointwise [id, val_main_cst_2, val_main_v5, val_main_v6, val_main_cst_3, val_main_v7, val_main_v8, val_main_cst_4,
    val_main_call1_v0, val_main_call1_v1, val_main_v9, val_main_v28, val_main_v29, val_main_v30]
  rfl

/-- The first view. -/
theorem v33_eq : mat (val_main_v33 (F := Ideal) X.x0 X.x1 X.x8 X.x10 X.x11 X.x12 X.x13 X.x16) = X.args.view0 := by
  funext i j
  change val_main_v33 (F := Ideal) X.x0 X.x1 X.x8 X.x10 X.x11 X.x12 X.x13 X.x16 (ix2 i j) = _
  rw [Args.view0, ← v14_eq X, ← v27_eq X]
  pointwise [id, val_main_v31, val_main_v32, val_main_call5_cst, val_main_call5_v0, val_main_call5_v1, val_main_call5_cst_0,
    val_main_call5_v2, val_main_call5_v3, val_main_call5_cst_1, val_main_call5_call0_v0, val_main_call5_call0_v1,
    val_main_call5_v4, val_main_call5_v5, val_main_call5_cst_2, val_main_call5_v6, val_main_call5_v7, val_main_v33]
  exact elu_where _

/-- The second view. -/
theorem v36_eq : mat (val_main_v36 (F := Ideal) X.x0 X.x2 X.x9 X.x10 X.x11 X.x14 X.x15 X.x17) = X.args.view1 := by
  funext i j
  change val_main_v36 (F := Ideal) X.x0 X.x2 X.x9 X.x10 X.x11 X.x14 X.x15 X.x17 (ix2 i j) = _
  rw [Args.view1, ← v14_eq X, ← v30_eq X]
  pointwise [id, val_main_v34, val_main_v35, val_main_call6_cst, val_main_call6_v0, val_main_call6_v1, val_main_call6_cst_0,
    val_main_call6_v2, val_main_call6_v3, val_main_call6_cst_1, val_main_call6_call0_v0, val_main_call6_call0_v1,
    val_main_call6_v4, val_main_call6_v5, val_main_call6_cst_2, val_main_call6_v6, val_main_call6_v7, val_main_v36]
  exact elu_where _

/-- The first masked view. -/
theorem v44_eq : mat (val_main_v44 (F := Ideal) X.x1 X.x3 X.x8 X.x10 X.x11 X.x12 X.x13 X.x16) = X.args.mask0 := by
  funext i j
  change val_main_v44 (F := Ideal) X.x1 X.x3 X.x8 X.x10 X.x11 X.x12 X.x13 X.x16 (ix2 i j) = _
  rw [Args.mask0, ← v41_eq X, ← v27_eq X]
  pointwise [id, val_main_v42, val_main_v43, val_main_call8_cst, val_main_call8_v0, val_main_call8_v1, val_main_call8_cst_0,
    val_main_call8_v2, val_main_call8_v3, val_main_call8_cst_1, val_main_call8_call0_v0, val_main_call8_call0_v1,
    val_main_call8_v4, val_main_call8_v5, val_main_call8_cst_2, val_main_call8_v6, val_main_call8_v7, val_main_v44]
  exact elu_where _

/-- The second masked view. -/
theorem v47_eq : mat (val_main_v47 (F := Ideal) X.x2 X.x3 X.x9 X.x10 X.x11 X.x14 X.x15 X.x17) = X.args.mask1 := by
  funext i j
  change val_main_v47 (F := Ideal) X.x2 X.x3 X.x9 X.x10 X.x11 X.x14 X.x15 X.x17 (ix2 i j) = _
  rw [Args.mask1, ← v41_eq X, ← v30_eq X]
  pointwise [id, val_main_v45, val_main_v46, val_main_call9_cst, val_main_call9_v0, val_main_call9_v1, val_main_call9_cst_0,
    val_main_call9_v2, val_main_call9_v3, val_main_call9_cst_1, val_main_call9_call0_v0, val_main_call9_call0_v1,
    val_main_call9_v4, val_main_call9_v5, val_main_call9_cst_2, val_main_call9_v6, val_main_call9_v7, val_main_v47]
  exact elu_where _

end Cert.ReferenceIdeal.Stage

end
-- ==== Proof.RefConv.lean ====
/- The reference's graph convolutions and the views' scores. -/
module

public import proofs.«01_k».proof.Proof.RefViews

@[expose] public section

set_option maxRecDepth 16384

noncomputable section

namespace Cert.ReferenceIdeal.Stage

open Cert.ReferenceIdeal Cert.ReferenceIdeal.Gen Cert.ReferenceIdeal.Read Idealize.ShloMosaic Cert.Spec

variable (X : In)

/-- The coarse convolution. -/
theorem v61_eq : mat (val_main_v61 (F := Ideal) X.x0 X.x4 X.x5 X.x10 X.x11 X.x18 X.x19 X.x20 X.x21) = X.args.coarse := by
  funext i j
  change val_main_v61 (F := Ideal) X.x0 X.x4 X.x5 X.x10 X.x11 X.x18 X.x19 X.x20 X.x21 (ix2 i j) = _
  rw [Args.coarse, ← v14_eq X]
  pointwise [id, val_main_v48, val_main_cst_5, val_main_v49, val_main_v50, val_main_v51, val_main_v52, val_main_v53,
    val_main_v54, val_main_v55, val_main_call10_cst, val_main_call10_v0, val_main_v56, val_main_v57, val_main_v58,
    val_main_v59, val_main_v60, val_main_v61]
  rfl

/-- A fine convolution. -/
theorem v72_eq : mat (val_main_v72 (F := Ideal) X.x0 X.x1 X.x4 X.x8 X.x10 X.x11 X.x12 X.x13 X.x16 X.x18 X.x19 X.x20 X.x21) = X.args.conv X.args.adj0 X.args.view0 := by
  funext i j
  change val_main_v72 (F := Ideal) X.x0 X.x1 X.x4 X.x8 X.x10 X.x11 X.x12 X.x13 X.x16 X.x18 X.x19 X.x20 X.x21 (ix2 i j) = _
  rw [← v33_eq X]
  pointwise [id, val_main_v62, val_main_v63, val_main_v64, val_main_v65, val_main_v66, val_main_call11_cst, val_main_call11_v0,
    val_main_v67, val_main_v68, val_main_v69, val_main_v70, val_main_v71, val_main_v72]
  rfl

/-- Its rows normalized. -/
theorem v109_eq : mat (val_main_v109 (F := Ideal) X.x0 X.x1 X.x4 X.x8 X.x10 X.x11 X.x12 X.x13 X.x16 X.x18 X.x19 X.x20 X.x21) = X.args.fine0 := by
  funext i j
  change val_main_v109 (F := Ideal) X.x0 X.x1 X.x4 X.x8 X.x10 X.x11 X.x12 X.x13 X.x16 X.x18 X.x19 X.x20 X.x21 (ix2 i j) = _
  rw [Args.fine0, ← v72_eq X]
  pointwise [id, val_main_call15_v0, val_main_call15_cst, val_main_call15_v1, val_main_call15_v2, val_main_v106,
    val_main_cst_6, val_main_call16_v0, val_main_call16_v1, val_main_v107, val_main_v108, val_main_v109]
  rw [max_comm]
  rfl

/-- A fine convolution. -/
theorem v83_eq : mat (val_main_v83 (F := Ideal) X.x1 X.x3 X.x6 X.x8 X.x10 X.x11 X.x12 X.x13 X.x16 X.x18 X.x19 X.x20 X.x21) = X.args.conv X.args.maskAdj0 X.args.mask0 := by
  funext i j
  change val_main_v83 (F := Ideal) X.x1 X.x3 X.x6 X.x8 X.x10 X.x11 X.x12 X.x13 X.x16 X.x18 X.x19 X.x20 X.x21 (ix2 i j) = _
  rw [← v44_eq X]
  pointwise [id, val_main_v73, val_main_v74, val_main_v75, val_main_v76, val_main_v77, val_main_call12_cst, val_main_call12_v0,
    val_main_v78, val_main_v79, val_main_v80, val_main_v81, val_main_v82, val_main_v83]
  rfl

/-- Its rows normalized. -/
theorem v113_eq : mat (val_main_v113 (F := Ideal) X.x1 X.x3 X.x6 X.x8 X.x10 X.x11 X.x12 X.x13 X.x16 X.x18 X.x19 X.x20 X.x21) = X.args.fine1 := by
  funext i j
  change val_main_v113 (F := Ideal) X.x1 X.x3 X.x6 X.x8 X.x10 X.x11 X.x12 X.x13 X.x16 X.x18 X.x19 X.x20 X.x21 (ix2 i j) = _
  rw [Args.fine1, ← v83_eq X]
  pointwise [id, val_main_call17_v0, val_main_call17_cst, val_main_call17_v1, val_main_call17_v2, val_main_v110,
    val_main_cst_7, val_main_call18_v0, val_main_call18_v1, val_main_v111, val_main_v112, val_main_v113]
  rw [max_comm]
  rfl

/-- A fine convolution. -/
theorem v94_eq : mat (val_main_v94 (F := Ideal) X.x0 X.x2 X.x5 X.x9 X.x10 X.x11 X.x14 X.x15 X.x17 X.x18 X.x19 X.x20 X.x21) = X.args.conv X.args.adj1 X.args.view1 := by
  funext i j
  change val_main_v94 (F := Ideal) X.x0 X.x2 X.x5 X.x9 X.x10 X.x11 X.x14 X.x15 X.x17 X.x18 X.x19 X.x20 X.x21 (ix2 i j) = _
  rw [← v36_eq X]
  pointwise [id, val_main_v84, val_main_v85, val_main_v86, val_main_v87, val_main_v88, val_main_call13_cst, val_main_call13_v0,
    val_main_v89, val_main_v90, val_main_v91, val_main_v92, val_main_v93, val_main_v94]
  rfl

/-- Its rows normalized. -/
theorem v117_eq : mat (val_main_v117 (F := Ideal) X.x0 X.x2 X.x5 X.x9 X.x10 X.x11 X.x14 X.x15 X.x17 X.x18 X.x19 X.x20 X.x21) = X.args.fine2 := by
  funext i j
  change val_main_v117 (F := Ideal) X.x0 X.x2 X.x5 X.x9 X.x10 X.x11 X.x14 X.x15 X.x17 X.x18 X.x19 X.x20 X.x21 (ix2 i j) = _
  rw [Args.fine2, ← v94_eq X]
  pointwise [id, val_main_call19_v0, val_main_call19_cst, val_main_call19_v1, val_main_call19_v2, val_main_v114,
    val_main_cst_8, val_main_call20_v0, val_main_call20_v1, val_main_v115, val_main_v116, val_main_v117]
  rw [max_comm]
  rfl

/-- A fine convolution. -/
theorem v105_eq : mat (val_main_v105 (F := Ideal) X.x2 X.x3 X.x7 X.x9 X.x10 X.x11 X.x14 X.x15 X.x17 X.x18 X.x19 X.x20 X.x21) = X.args.conv X.args.maskAdj1 X.args.mask1 := by
  funext i j
  change val_main_v105 (F := Ideal) X.x2 X.x3 X.x7 X.x9 X.x10 X.x11 X.x14 X.x15 X.x17 X.x18 X.x19 X.x20 X.x21 (ix2 i j) = _
  rw [← v47_eq X]
  pointwise [id, val_main_v95, val_main_v96, val_main_v97, val_main_v98, val_main_v99, val_main_call14_cst, val_main_call14_v0,
    val_main_v100, val_main_v101, val_main_v102, val_main_v103, val_main_v104, val_main_v105]
  rfl

/-- Its rows normalized. -/
theorem v121_eq : mat (val_main_v121 (F := Ideal) X.x2 X.x3 X.x7 X.x9 X.x10 X.x11 X.x14 X.x15 X.x17 X.x18 X.x19 X.x20 X.x21) = X.args.fine3 := by
  funext i j
  change val_main_v121 (F := Ideal) X.x2 X.x3 X.x7 X.x9 X.x10 X.x11 X.x14 X.x15 X.x17 X.x18 X.x19 X.x20 X.x21 (ix2 i j) = _
  rw [Args.fine3, ← v105_eq X]
  pointwise [id, val_main_call21_v0, val_main_call21_cst, val_main_call21_v1, val_main_call21_v2, val_main_v118,
    val_main_cst_9, val_main_call22_v0, val_main_call22_v1, val_main_v119, val_main_v120, val_main_v121]
  rw [max_comm]
  rfl

/-- A view's score. -/
theorem v129_eq (i : S_.Idx) : val_main_v129 (F := Ideal) X.x0 X.x1 X.x4 X.x8 X.x10 X.x11 X.x12 X.x13 X.x16 X.x18 X.x19 X.x20 X.x21 X.x22 X.x23 X.x24 i = X.args.sc X.args.fine0 := by
  rw [← v109_eq X]
  pointwise [id, val_main_v122, val_main_v123, val_main_v124, val_main_v125, val_main_v126, val_main_v127, val_main_cst_10, val_main_v128, val_main_cst_11, val_main_v129]
  rfl

/-- A view's score. -/
theorem v137_eq (i : S_.Idx) : val_main_v137 (F := Ideal) X.x1 X.x3 X.x6 X.x8 X.x10 X.x11 X.x12 X.x13 X.x16 X.x18 X.x19 X.x20 X.x21 X.x22 X.x23 X.x24 i = X.args.sc X.args.fine1 := by
  rw [← v113_eq X]
  pointwise [id, val_main_v130, val_main_v131, val_main_v132, val_main_v133, val_main_v134, val_main_v135, val_main_cst_12, val_main_v136, val_main_cst_13, val_main_v137]
  rfl

/-- A view's score. -/
theorem v145_eq (i : S_.Idx) : val_main_v145 (F := Ideal) X.x0 X.x2 X.x5 X.x9 X.x10 X.x11 X.x14 X.x15 X.x17 X.x18 X.x19 X.x20 X.x21 X.x22 X.x23 X.x24 i = X.args.sc X.args.fine2 := by
  rw [← v117_eq X]
  pointwise [id, val_main_v138, val_main_v139, val_main_v140, val_main_v141, val_main_v142, val_main_v143, val_main_cst_14, val_main_v144, val_main_cst_15, val_main_v145]
  rfl

/-- A view's score. -/
theorem v153_eq (i : S_.Idx) : val_main_v153 (F := Ideal) X.x2 X.x3 X.x7 X.x9 X.x10 X.x11 X.x14 X.x15 X.x17 X.x18 X.x19 X.x20 X.x21 X.x22 X.x23 X.x24 i = X.args.sc X.args.fine3 := by
  rw [← v121_eq X]
  pointwise [id, val_main_v146, val_main_v147, val_main_v148, val_main_v149, val_main_v150, val_main_v151, val_main_cst_16, val_main_v152, val_main_cst_17, val_main_v153]
  rfl

end Cert.ReferenceIdeal.Stage

end
-- ==== Proof.RefMix.lean ====
/- The reference's softmax over the four scores, the blend of the views and the two projections. -/
module

public import proofs.«01_k».proof.Proof.RefConv

@[expose] public section

set_option maxRecDepth 16384

noncomputable section

namespace Cert.ReferenceIdeal.Stage

open Cert.ReferenceIdeal Cert.ReferenceIdeal.Gen Cert.ReferenceIdeal.Read Idealize.ShloMosaic Cert.Spec

variable (X : In)

/-- The bits of minus infinity. -/
theorem bot_lit : Ideal.ofBits .f32 4286578688#32 = ⊥ := by
  simp [Ideal.ofBits, Ideal.ieee]

/-- The four scores in one array. -/
theorem v158_eq : vec (val_main_v158 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24) = X.args.scores := by
  funext k
  change val_main_v158 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix1 k) = _
  pointwise [val_main_v154, val_main_v155, val_main_v156, val_main_v157, val_main_v158]
  simp only [v129_eq, v137_eq, v145_eq, v153_eq]
  fin_cases k <;> simp <;> rfl

/-- Their softmax. -/
theorem v168_eq : vec (val_main_v168 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24) = X.args.beta := by
  rw [Args.beta, ← v158_eq X]
  funext k
  change val_main_v168 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix1 k) = _
  pointwise [val_main_cst_18, val_main_v159, val_main_cst_19, val_main_v160, val_main_v161, val_main_v162, val_main_v163, val_main_v164, val_main_cst_20, val_main_v165, val_main_v166, val_main_v167, val_main_v168]
  simp only [bot_lit, bot_le, max_eq_right]
  rfl

/-- The views weighed together. -/
theorem v189_eq : mat (val_main_v189 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24) = X.args.fine := by
  funext i j
  change val_main_v189 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 (ix2 i j) = _
  rw [Args.fine, ← v168_eq X, ← v109_eq X, ← v113_eq X, ← v117_eq X, ← v121_eq X]
  pointwise [id, val_main_v169, val_main_v170, val_main_v171, val_main_v172, val_main_cst_21, val_main_v173, val_main_v174,
    val_main_v175, val_main_v176, val_main_v177, val_main_v178, val_main_v179, val_main_v180, val_main_v181,
    val_main_v182, val_main_v183, val_main_v184, val_main_v185, val_main_v186, val_main_v187, val_main_v188,
    val_main_v189]
  rfl

/-- The coarse projection before its rows are normalized. -/
theorem v194_eq : mat (val_main_v194 (F := Ideal) X.x0 X.x4 X.x5 X.x10 X.x11 X.x18 X.x19 X.x20 X.x21 X.x25 X.x26) = fun i j => Ideal.tanh (mm X.args.coarse X.args.wproj i j + X.args.bproj j) := by
  funext i j
  change val_main_v194 (F := Ideal) X.x0 X.x4 X.x5 X.x10 X.x11 X.x18 X.x19 X.x20 X.x21 X.x25 X.x26 (ix2 i j) = _
  rw [← v61_eq X]
  pointwise [id, val_main_v190, val_main_v191, val_main_v192, val_main_v193, val_main_v194]
  rfl

/-- The coarse projection. -/
theorem v198_eq : mat (val_main_v198 (F := Ideal) X.x0 X.x4 X.x5 X.x10 X.x11 X.x18 X.x19 X.x20 X.x21 X.x25 X.x26) = X.args.zc := by
  funext i j
  change val_main_v198 (F := Ideal) X.x0 X.x4 X.x5 X.x10 X.x11 X.x18 X.x19 X.x20 X.x21 X.x25 X.x26 (ix2 i j) = _
  rw [Args.zc, proj, ← v194_eq X]
  pointwise [id, val_main_call23_v0, val_main_call23_cst, val_main_call23_v1, val_main_call23_v2, val_main_v195,
    val_main_cst_22, val_main_call24_v0, val_main_call24_v1, val_main_v196, val_main_v197, val_main_v198]
  rw [max_comm]
  rfl

/-- The fine projection before its rows are normalized. -/
theorem v203_eq : mat (val_main_v203 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26) = fun i j => Ideal.tanh (mm X.args.fine X.args.wproj i j + X.args.bproj j) := by
  funext i j
  change val_main_v203 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 (ix2 i j) = _
  rw [← v189_eq X]
  pointwise [id, val_main_v199, val_main_v200, val_main_v201, val_main_v202, val_main_v203]
  rfl

/-- The fine projection. -/
theorem v207_eq : mat (val_main_v207 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26) = X.args.zf := by
  funext i j
  change val_main_v207 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 (ix2 i j) = _
  rw [Args.zf, proj, ← v203_eq X]
  pointwise [id, val_main_call25_v0, val_main_call25_cst, val_main_call25_v1, val_main_call25_v2, val_main_v204,
    val_main_cst_23, val_main_call26_v0, val_main_call26_v1, val_main_v205, val_main_v206, val_main_v207]
  rw [max_comm]
  rfl

end Cert.ReferenceIdeal.Stage

end
-- ==== Proof.Pure.lean ====
/- The facts about extended reals by which the reference's pair stage and the kernel's are the same function: the
   projections' entries are real numbers, a product of a sum splits over real entries, and the logarithm of a quotient
   is a difference of logarithms. -/
module

public import proofs.«01_k».proof.Proof.Spec

@[expose] public section

noncomputable section

namespace Cert.Spec

open Idealize.ShloMosaic

/-- One half is a real number. -/
theorem half_lit : half = ((1 / 2 : ℝ) : EReal) := by
  simp [Ideal.ofBits, Ideal.ieee, -EReal.coe_mul]; norm_num

/-- The floor under the norms is a positive real number. -/
theorem tiny_lit : ∃ r : ℝ, 0 < r ∧ tiny = (r : EReal) := by
  refine ⟨(2 : ℝ) ^ (-40 : ℤ) * (1 + (0x0CBCCC : ℝ) / 2 ^ 23), by positivity, ?_⟩
  simp [Ideal.ofBits, Ideal.ieee, -EReal.coe_mul]; norm_num

/-- Dividing by one half doubles. -/
theorem div_half (x : EReal) : Ideal.div x half = x * ((2 : ℝ) : EReal) := by
  rw [half_lit, Ideal.div_coe (by norm_num)]; norm_num

/-- The logistic function as a quotient. -/
theorem logistic_div (x : EReal) : Ideal.div 1 (1 + Ideal.exp (-x)) = Ideal.logistic x := by
  induction x with
  | bot =>
    have h : (1 : EReal) + ⊤ = ⊤ := EReal.add_top_of_ne_bot (EReal.coe_ne_bot 1)
    simp [Ideal.div, h]
  | top => simp [Ideal.div]
  | coe r =>
    have h : (1 : EReal) + Ideal.exp (-(r : EReal)) = ((1 + Real.exp (-r) : ℝ) : EReal) := by
      rw [← EReal.coe_neg, Ideal.exp_coe]; push_cast; rfl
    have hp : (1 + Real.exp (-r)) ≠ 0 := by positivity
    rw [h, Ideal.div_coe hp, Ideal.logistic_coe]; simp

/-- A hyperbolic tangent is a real number. -/
theorem tanh_real (x : EReal) : ∃ r : ℝ, Ideal.tanh x = r := by
  induction x with
  | bot => exact ⟨-1, by simp⟩
  | top => exact ⟨1, by simp⟩
  | coe r => exact ⟨_, Ideal.tanh_coe r⟩

/-- A logistic value is a real number, not negative. -/
theorem logistic_real (x : EReal) : ∃ r : ℝ, 0 ≤ r ∧ Ideal.logistic x = r := by
  induction x with
  | bot => exact ⟨0, le_rfl, by simp⟩
  | top => exact ⟨1, zero_le_one, by simp⟩
  | coe r => exact ⟨_, by positivity, Ideal.logistic_coe r⟩

/-- A sum of real numbers is one. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih]; push_cast; rfl

/-- A projection's entries are real numbers. -/
theorem proj_real {n d e : ℕ} (z : Mat n d) (w : Mat d e) (b : Fin e → EReal) :
    ∃ f : Fin n → Fin e → ℝ, proj z w b = fun i j => (f i j : EReal) := by
  choose t ht using fun i j => tanh_real (mm z w i j + b j)
  obtain ⟨r, hr, hl⟩ := tiny_lit
  refine ⟨fun i j => t i j * (1 / max √(∑ k, t i k * t i k) r), ?_⟩
  funext i j
  unfold proj normalize
  simp only [ht, hl, ← EReal.coe_mul, coe_sum]
  have hn : ¬ (∑ k, t i k * t i k) < 0 := not_lt.2 (Finset.sum_nonneg fun k _ => mul_self_nonneg _)
  rw [Ideal.sqrt_coe, if_neg hn, ← EReal.coe_strictMono.monotone.map_max, Ideal.div_coe (lt_of_lt_of_le hr (le_max_right _ _)).ne']
  push_cast; rfl

/-- The product of a sum of real rows with real weights, in two parts. -/
theorem pair_split {n : ℕ} (f g w : Fin n → ℝ) (b : EReal) :
    (∑ t, ((f t : EReal) + (g t : EReal)) * (w t : EReal)) + b
      = (∑ t, (f t : EReal) * (w t : EReal)) + ((∑ t, (g t : EReal) * (w t : EReal)) + b) := by
  simp only [← EReal.coe_add, ← EReal.coe_mul, coe_sum]
  rw [← add_assoc, ← EReal.coe_add, ← Finset.sum_add_distrib]
  simp only [add_mul]

/-- Logits of real rows are real numbers. -/
theorem logit_real {n d : ℕ} (f g : Fin n → Fin d → ℝ) (i j : Fin n) :
    ∃ r : ℝ, logit (fun i k => (f i k : EReal)) (fun i k => (g i k : EReal)) i j = r := by
  refine ⟨(∑ t, f i t * g j t) * 2, ?_⟩
  unfold logit
  simp only [← EReal.coe_mul, coe_sum]

/-- The weighted sum of a row's exponentials is a real number, not negative. -/
theorem denom_real {n d e : ℕ} (f g : Fin n → Fin d → ℝ) (a b : Mat n e) (w : Fin e → EReal) (c : EReal) (i : Fin n) :
    ∃ r : ℝ, 0 ≤ r ∧ denom (fun i k => (f i k : EReal)) (fun i k => (g i k : EReal)) a b w c i = r := by
  choose l hl using fun j => logit_real f g i j
  choose v hv hv' using fun j => logistic_real ((∑ k, Ideal.tanh (a i k + b j k) * w k) + c)
  refine ⟨∑ j, Real.exp (l j) * v j, Finset.sum_nonneg fun j _ => mul_nonneg (Real.exp_pos _).le (hv j), ?_⟩
  unfold denom weight
  simp only [hl, hv', Ideal.exp_coe, ← EReal.coe_mul, coe_sum]

/-- A row's term of the loss, as the negated logarithm of a quotient. -/
theorem log_quot (d e : ℝ) (he : 0 ≤ e) :
    -Ideal.log (Ideal.div (Ideal.exp (d : EReal)) (e : EReal)) = Ideal.log (e : EReal) - (d : EReal) := by
  have hd := Real.exp_pos d
  rcases eq_or_lt_of_le he with h | h
  · subst h
    have : (0 : EReal) < ((Real.exp d : ℝ) : EReal) := EReal.coe_pos.2 hd
    have hl : Ideal.log ((0 : ℝ) : EReal) = ⊥ := by rw [Ideal.log_coe, if_pos le_rfl]
    rw [hl]; simp [Ideal.div, this]
  · rw [Ideal.exp_coe, Ideal.div_coe h.ne', ← EReal.coe_mul, Ideal.log_coe, if_neg (not_le.2 (by positivity)), Ideal.log_coe,
      if_neg (not_le.2 h), ← EReal.coe_neg, ← EReal.coe_sub, Real.log_mul hd.ne' (by positivity), Real.log_exp, one_div,
      Real.log_inv]
    congr 1; ring

end Cert.Spec

end
-- ==== Proof.RefPair.lean ====
/- The reference's pair stage: logits, pair weights, diagonal and loss. -/
module

public import proofs.«01_k».proof.Proof.RefMix
public import proofs.«01_k».proof.Proof.Pure

@[expose] public section

set_option maxRecDepth 16384

noncomputable section

namespace Cert.ReferenceIdeal.Stage

open Cert.ReferenceIdeal Cert.ReferenceIdeal.Gen Cert.ReferenceIdeal.Read Idealize.ShloMosaic Cert.Spec

variable (X : In)

/-- The logits. -/
theorem v211_eq : mat (val_main_v211 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26) = logit X.args.zf X.args.zc := by
  funext i j
  change val_main_v211 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 (ix2 i j) = _
  rw [← v207_eq X, ← v198_eq X]
  pointwise [id, val_main_v208, val_main_v209, val_main_cst_24, val_main_v210, val_main_v211]
  exact div_half _

/-- The logits' exponentials. -/
theorem v212_eq : mat (val_main_v212 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26) = fun i j => Ideal.exp (logit X.args.zf X.args.zc i j) := by
  funext i j
  change val_main_v212 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 (ix2 i j) = _
  rw [← v211_eq X]
  pointwise [id, val_main_v212]

/-- A row's number is not negative as a signed word. -/
theorem word_pos (n : Fin 1024) : IntOp.cmpi .slt (BitVec.ofNat 32 n.val) 0#32 = 0#1 := by
  revert n; decide +kernel

/-- A row's number read back off its word. -/
theorem word_toNat (n : Fin 1024) : (BitVec.ofNat 32 n.val).toInt.toNat = n.val := by
  revert n; decide +kernel

/-- The diagonal's indices: a row's number twice. -/
theorem v227_eq (i : Fin 1024) (k : Fin 2) : val_main_v227 (F := Ideal)  (ix2 i k) = BitVec.ofNat 32 i.val := by
  pointwise [val_main_v213, val_main_v214, val_main_c, val_main_v215, val_main_v216, val_main_c_25, val_main_v217, val_main_v218, val_main_v219, val_main_c_26, val_main_v220, val_main_v221, val_main_c_27, val_main_v222, val_main_v223, val_main_v224, val_main_v225, val_main_v226, val_main_v227]
  rw [word_pos]
  split <;> rfl

/-- The element of a matrix a row's number, given twice, selects. -/
theorem diag_idx (idx : IVec S1024x2 32) (i : Fin 1024) (h : ∀ k : Fin 2, idx (ix2 i k) = BitVec.ofNat 32 i.val) :
    gather_S1024x1024_S1024x2_S1024_n_01_n_n_01_1_11.operandIdx (ix1 i) idx = ix2 i i := by
  funext a
  refine Fin.ext ?_
  show gather_S1024x1024_S1024x2_S1024_n_01_n_n_01_1_11.start (ix1 i) idx a
    + gather_S1024x1024_S1024x2_S1024_n_01_n_n_01_1_11.batchCoord (ix1 i) a
    + gather_S1024x1024_S1024x2_S1024_n_01_n_n_01_1_11.offCoord (ix1 i) a = _
  have hi : i.val < 1024 := i.isLt
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (show (0 : Fin 2) ∈ [0, 1] by decide))]
    unfold GatherDims.start
    rw [dif_pos (show (0 : Fin 2) ∈ gather_S1024x1024_S1024x2_S1024_n_01_n_n_01_1_11.startIndexMap by decide)]
    have hsi : ∀ q, gather_S1024x1024_S1024x2_S1024_n_01_n_n_01_1_11.siIdx (ix1 i) q = ix2 i ⟨q.val, q.isLt⟩ := by
      intro q; funext b; refine Fin.ext ?_
      match b with
      | ⟨0, _⟩ => rfl
      | ⟨1, _⟩ => rfl
    have key : ∀ q, (idx (gather_S1024x1024_S1024x2_S1024_n_01_n_n_01_1_11.siIdx (ix1 i) q)).toInt.toNat = i.val :=
      fun q => by
        rw [hsi q]
        exact (congrArg (fun b : BitVec 32 => b.toInt.toNat) (h ⟨q.val, q.isLt⟩)).trans (word_toNat i)
    exact (congrArg (fun n => min n 1023 + 0 + 0) (key _)).trans (show min i.val 1023 + 0 + 0 = i.val by omega)
  · rw [GatherDims.batchCoord_eq_zero _ _ _ List.not_mem_nil,
      GatherDims.offCoord_eq_zero _ _ _ (fun h => ((GatherDims.mem_sKept _ _).mp h).1 (show (1 : Fin 2) ∈ [0, 1] by decide))]
    unfold GatherDims.start
    rw [dif_pos (show (1 : Fin 2) ∈ gather_S1024x1024_S1024x2_S1024_n_01_n_n_01_1_11.startIndexMap by decide)]
    have hsi : ∀ q, gather_S1024x1024_S1024x2_S1024_n_01_n_n_01_1_11.siIdx (ix1 i) q = ix2 i ⟨q.val, q.isLt⟩ := by
      intro q; funext b; refine Fin.ext ?_
      match b with
      | ⟨0, _⟩ => rfl
      | ⟨1, _⟩ => rfl
    have key : ∀ q, (idx (gather_S1024x1024_S1024x2_S1024_n_01_n_n_01_1_11.siIdx (ix1 i) q)).toInt.toNat = i.val :=
      fun q => by
        rw [hsi q]
        exact (congrArg (fun b : BitVec 32 => b.toInt.toNat) (h ⟨q.val, q.isLt⟩)).trans (word_toNat i)
    exact (congrArg (fun n => min n 1023 + 0 + 0) (key _)).trans (show min i.val 1023 + 0 + 0 = i.val by omega)

/-- The diagonal. -/
theorem v228_eq (i : Fin 1024) : val_main_v228 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 (ix1 i) = Ideal.exp (logit X.args.zf X.args.zc i i) := by
  unfold val_main_v228 Host.gather
  rw [diag_idx _ i (v227_eq i)]
  exact congrFun (congrFun (v212_eq X) i) i

/-- The pair weights, where the pair layer's weights are real numbers. -/
theorem v253_eq (w : Fin 64 → Fin 16 → ℝ) (hw : X.args.wm1 = fun t k => (w t k : EReal)) (i j : Fin 1024) :
    val_main_v253 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 (ix2 i j) = weight X.args.left X.args.right X.args.wm2 X.args.bm2 i j := by
  obtain ⟨f, hf⟩ := proj_real X.args.fine X.args.wproj X.args.bproj
  obtain ⟨g, hg⟩ := proj_real X.args.coarse X.args.wproj X.args.bproj
  have hf' : val_main_v207 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 = arr (fun i t => (f i t : EReal)) := by
    rw [← hf]; funext y; idx_vars y; exact congrFun (congrFun (v207_eq X) y0) y1
  have hg' : val_main_v198 (F := Ideal) X.x0 X.x4 X.x5 X.x10 X.x11 X.x18 X.x19 X.x20 X.x21 X.x25 X.x26 = arr (fun i t => (g i t : EReal)) := by
    rw [← hg]; funext y; idx_vars y; exact congrFun (congrFun (v198_eq X) y0) y1
  have hw' : ∀ t k, X.x27 (ix2 t k) = (w t k : EReal) := fun t k => congrFun (congrFun hw t) k
  pointwise [val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_cst_28, val_main_v249, val_main_v250, val_main_cst_29, val_main_v251, val_main_v252, val_main_v253]
  rw [logistic_div]
  unfold weight Args.left Args.right Args.zf Args.zc
  rw [hf, hg, hw, hf', hg']
  simp only [hw']
  refine congrArg (fun s => Ideal.logistic (s + X.args.bm2)) (Finset.sum_congr rfl fun k _ => ?_)
  exact congrArg (fun s => Ideal.tanh s * X.args.wm2 k) (pair_split (f i) (g j) (fun t => w t k) (X.args.bm1 k))

/-- The loss. -/
theorem v260_eq (w : Fin 64 → Fin 16 → ℝ) (hw : X.args.wm1 = fun t k => (w t k : EReal)) :
    val_main_v260 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 X.x27 X.x28 X.x29 X.x30 ix0 = X.args.value := by
  pointwise [val_main_v254, val_main_cst_30, val_main_v255, val_main_v256, val_main_v257, val_main_v258, val_main_cst_31, val_main_v259, val_main_cst_32, val_main_v260]
  have h2 : ∀ i j, val_main_v212 (F := Ideal) X.x0 X.x1 X.x2 X.x3 X.x4 X.x5 X.x6 X.x7 X.x8 X.x9 X.x10 X.x11 X.x12 X.x13 X.x14 X.x15 X.x16 X.x17 X.x18 X.x19 X.x20 X.x21 X.x22 X.x23 X.x24 X.x25 X.x26 (ix2 i j) = Ideal.exp (logit X.args.zf X.args.zc i j) :=
    fun i j => congrFun (congrFun (v212_eq X) i) j
  simp only [h2, v228_eq, v253_eq X w hw]
  unfold Args.value loss
  refine congrArg (fun s => Ideal.div s rows) (Finset.sum_congr rfl fun i _ => ?_)
  obtain ⟨f, hf⟩ := proj_real X.args.fine X.args.wproj X.args.bproj
  obtain ⟨g, hg⟩ := proj_real X.args.coarse X.args.wproj X.args.bproj
  have hzf : X.args.zf = fun i t => (f i t : EReal) := hf
  have hzc : X.args.zc = fun i t => (g i t : EReal) := hg
  obtain ⟨d, hd⟩ := logit_real f g i i
  obtain ⟨e, he, he'⟩ := denom_real f g X.args.left X.args.right X.args.wm2 X.args.bm2 i
  rw [hzf, hzc]
  change -Ideal.log (Ideal.div _ (denom _ _ _ _ _ _ _)) = _
  rw [hd, he']
  exact log_quot d e he
end Cert.ReferenceIdeal.Stage

end
-- ==== Proof.RefRun.lean ====
/- The reference's program ends with the same loss in its result, the mixing layer's weights being real. -/
module

public import proofs.«01_k».proof.Proof.RefPair
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.ReferenceIdeal.Stage

open Cert.ReferenceIdeal Idealize.ShloMosaic Idealize.ShloMosaic.TcCoe Idealize.SL.Sem Cert.Spec

variable (m : (ℓ : Loc nD τ sig) → Buf (Elt Ideal) ℓ) (ρ : Dev nD → PrngReg)

/-- The arguments as the launch finds them. -/
def launched (c : Dev nD) : In where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)
  x22 := m ((c.tc : Thread nD τ).loc main_arg22)
  x23 := m ((c.tc : Thread nD τ).loc main_arg23)
  x24 := m ((c.tc : Thread nD τ).loc main_arg24)
  x25 := m ((c.tc : Thread nD τ).loc main_arg25)
  x26 := m ((c.tc : Thread nD τ).loc main_arg26)
  x27 := m ((c.tc : Thread nD τ).loc main_arg27)
  x28 := m ((c.tc : Thread nD τ).loc main_arg28)
  x29 := m ((c.tc : Thread nD τ).loc main_arg29)
  x30 := m ((c.tc : Thread nD τ).loc main_arg30)

set_option maxHeartbeats 1000000 in
/-- Every execution ends, and the result is then the network's loss. -/
theorem run_loss (w : Dev nD → Fin 64 → Fin 16 → ℝ) (hw : ∀ c, (launched m c).args.wm1 = fun t k => (w c t k : EReal)) :
    θ_run defs (onTc (τ := τ) (main (F := Ideal))) ⟨m, fun _ => 0, ρ⟩ (fun r => ∀ c : Dev nD,
      r.2.mem ((c.tc : Thread nD τ).loc main_v260) = fun _ => (launched m c).args.value) :=
  (θ_run defs _ _).mono (fun _ h c => (h c).1.trans ((Read.val_main_v260_eq (StableHlo.launchContents m c)).trans
    (funext fun y => (congrArg _ (Subsingleton.elim y ix0)).trans (v260_eq (launched m c) (w c) (hw c)))))
    (Value.run (F := Ideal) m ρ)

end Cert.ReferenceIdeal.Stage

end
-- ==== Proof.Mixing.lean ====
/- The precondition read: every weight of the pair layer's first matrix is a real number. -/
module

public import proofs.«01_k».proof.Pre_finite_mixing
public import proofs.«01_k».proof.Proof.Scalars
public import Idealize.ShloMosaic.Lib.Pointwise

@[expose] public section

noncomputable section

namespace Cert.Pre_finite_mixing

open Idealize.ShloMosaic Cert.Spec

/-- The predicate's one shape fact. -/
instance facts : Facts := ⟨by decide +kernel⟩

/-- The bits of infinity. -/
theorem top_lit : Ideal.ofBits .f32 0x7F800000#32 = ⊤ := by
  simp [Ideal.ofBits, Ideal.ieee]

/-- An extended real whose absolute value is below infinity is real. -/
theorem real_of_abs (x : EReal) (h : max x (-x) < ⊤) : ∃ r : ℝ, x = (r : EReal) := by
  induction x with
  | bot => simp at h
  | top => simp at h
  | coe r => exact ⟨r, rfl⟩

/-- Where the comparison is true everywhere, the matrix is real. -/
theorem real_of_lt (hb : S_.BroadcastsInDim S64x16 (![] : Fin 0 → Fin S64x16.rank)) (x : FVec Ideal S64x16 .f32)
    (h : cmpf .olt (Host.absf x) (broadcastInDim S64x16 ![] hb (constant (F := Ideal) S_ .f32 0x7F800000#32)) = fun _ => 1#1) :
    ∃ w : Fin 64 → Fin 16 → ℝ, mat x = fun t k => (w t k : EReal) := by
  have h1 : ∀ t k, ∃ r : ℝ, x (ix2 t k) = (r : EReal) := by
    intro t k
    have ht := congrFun h (ix2 t k)
    change cmpf .olt (Host.absf x) (broadcastInDim S64x16 ![] hb (constant (F := Ideal) S_ .f32 0x7F800000#32)) (ix2 t k) = 1#1 at ht
    have e : cmpf .olt (Host.absf x) (broadcastInDim S64x16 ![] hb (constant (F := Ideal) S_ .f32 0x7F800000#32)) (ix2 t k)
        = if max (x (ix2 t k)) (-x (ix2 t k)) < ⊤ then 1#1 else 0#1 := by
      pointwise []
      rw [top_lit]
      change BitVec.ofBool (decide (max (x (ix2 t k)) (-x (ix2 t k)) < ⊤)) = _
      by_cases hx : max (x (ix2 t k)) (-x (ix2 t k)) < ⊤
      · rw [if_pos hx, decide_eq_true hx]; rfl
      · rw [if_neg hx, decide_eq_false hx]; rfl
    rw [e] at ht
    refine real_of_abs _ ?_
    by_contra hn
    rw [if_neg hn] at ht
    exact absurd ht (by decide)
  choose w hw using h1
  exact ⟨w, funext fun t => funext fun k => hw t k⟩

end Cert.Pre_finite_mixing

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import proofs.«01_k».proof.Proof.Mixing
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Spec

/-- The kernel ends with its arguments unchanged and its counters at zero. -/
theorem frame_p : Cert.quiescent_Kernel := fun m g _ => Cert.Kernel.Gen.frame (F := Bits) m g
/-- So does the idealized kernel, -/
theorem frame_pi : Cert.quiescent_KernelIdeal := fun m g _ => Cert.KernelIdeal.Gen.frame (F := Ideal) m g
/-- the precondition taken or not. -/
theorem frame_pi_pre : Cert.quiescent_KernelIdeal_pre_finite_mixing := fun m g _ => Cert.KernelIdeal.Gen.frame (F := Ideal) m g
/-- The reference ends with its arguments unchanged; it has no counter. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
/-- The same under the precondition. -/
theorem frame_ri_pre : Cert.quiescent_ReferenceIdeal_pre_finite_mixing := fun m g _ =>
  (θ_run Cert.ReferenceIdeal.defs _ _).mono (fun r h => ⟨fun c => (h c).2, sem_eq_zero_of_no_sems (by decide) r.2⟩)
    (Cert.ReferenceIdeal.Value.run (F := Ideal) m g)

/-- The two programs' arguments are the same arguments of the network. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (e26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (e27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (e28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (e29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (e30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    (Cert.ReferenceIdeal.Stage.launched m' c).args = Cert.KernelIdeal.Chain.K m c := by
  unfold Cert.ReferenceIdeal.Stage.launched Cert.ReferenceIdeal.Stage.In.args Cert.KernelIdeal.Chain.K
  congr 1
  exacts [congrArg mat e0, congrArg mat e1, congrArg mat e2, congrArg mat e3, congrArg mat e4, congrArg mat e5,
    congrArg mat e6, congrArg mat e7, congrArg mat e8, congrArg mat e9, congrArg mat e10, congrArg vec e11,
    congrArg mat e12, congrArg vec e13, congrArg mat e14, congrArg vec e15, congrArg mat e16, congrArg mat e17,
    congrArg mat e18, congrArg vec e19, congrArg mat e20, congrArg vec e21, congrArg mat e22, congrArg vec e23,
    congrArg vec e24, congrArg mat e25, congrArg vec e26, congrArg mat e27, congrArg vec e28, congrArg col e29,
    congrFun e30 (ix1 0)]

/-- Kernel and reference end with one loss. -/
theorem equal : Cert.algebraic_KernelIdeal_ReferenceIdeal_pre_finite_mixing := by
  intro m g m' g' hpre hagree
  have hK : ∀ c, (Cert.ReferenceIdeal.Stage.launched m' c).args = Cert.KernelIdeal.Chain.K m c := by
    intro c
    obtain ⟨e0, e1, e2, e3, e4, e5, e6, e7, e8, e9, e10, e11, e12, e13, e14, e15, e16, e17, e18, e19, e20, e21, e22, e23, e24, e25, e26, e27, e28, e29, e30⟩ := hagree c
    exact args_eq m m' c e0 e1 e2 e3 e4 e5 e6 e7 e8 e9 e10 e11 e12 e13 e14 e15 e16 e17 e18 e19 e20 e21 e22 e23 e24 e25 e26 e27 e28 e29 e30
  have hw : ∀ c, ∃ w : Fin 64 → Fin 16 → ℝ, (Cert.ReferenceIdeal.Stage.launched m' c).args.wm1 = fun t k => (w t k : EReal) := by
    intro c
    rw [hK c]
    exact Cert.Pre_finite_mixing.real_of_lt _ _ (hpre c)
  choose w hw using hw
  refine ⟨fun c _ => (Cert.KernelIdeal.Chain.K m c).value, ?_, ?_⟩
  · exact (θ_run Cert.KernelIdeal.defs _ _).mono (fun _ h c => ⟨h.1 c, h.2 c⟩)
      (θ_run_and (Cert.KernelIdeal.Chain.run_loss m g) (Cert.KernelIdeal.Gen.unchanged (F := Ideal) m g))
  · exact (θ_run Cert.ReferenceIdeal.defs _ _).mono
      (fun _ h c => ⟨(h.1 c).trans (funext fun _ => congrArg Cert.Spec.Args.value (hK c)), (h.2 c).2⟩)
      (θ_run_and (Cert.ReferenceIdeal.Stage.run_loss m' g' w hw) (Cert.ReferenceIdeal.Value.run (F := Ideal) m' g'))

/-- Everything claimed. -/
theorem claim : Cert.Claim := ⟨Cert.Kernel.Gen.facts, Cert.KernelIdeal.Gen.facts, Cert.ReferenceIdeal.Gen.facts,
  Cert.Pre_finite_mixing.facts, frame_p, frame_pi, frame_pi_pre, frame_ri, frame_ri_pre, trivial, equal⟩

end Cert.Proof

end
